-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S3x4x256x256 : Shape := ⟨4, ![3, 4, 256, 256]⟩
abbrev S3x2x256x256 : Shape := ⟨4, ![3, 2, 256, 256]⟩
abbrev S3x256x256 : Shape := ⟨3, ![3, 256, 256]⟩
abbrev S63 : Shape := ⟨1, ![63]⟩
abbrev S_ : Shape := ⟨0, ![]⟩
abbrev S256x768 : Shape := ⟨2, ![256, 768]⟩
abbrev S256x640 : Shape := ⟨2, ![256, 640]⟩
abbrev S256x256 : Shape := ⟨2, ![256, 256]⟩
abbrev S1x1x256x256 : Shape := ⟨4, ![1, 1, 256, 256]⟩
abbrev S1 : Shape := ⟨1, ![1]⟩
abbrev S256x128 : Shape := ⟨2, ![256, 128]⟩
abbrev S1x1x256x128 : Shape := ⟨4, ![1, 1, 256, 128]⟩
abbrev S1x256x128 : Shape := ⟨3, ![1, 256, 128]⟩
abbrev S1x256x256 : Shape := ⟨3, ![1, 256, 256]⟩

abbrev nBuf : Space → Nat
  | .hbm => 3
  | .vmem => 16
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S256x2048, .f32⟩
  | .local _ .vmem, ⟨0, _⟩ => ⟨S2048x256, .bf16⟩
  | .local _ .vmem, ⟨1, _⟩ => ⟨S256x2048, .bf16⟩
  | .local _ .vmem, ⟨2, _⟩ => ⟨S256x2048, .f32⟩
  | .local _ .vmem, ⟨3, _⟩ => ⟨S2048x256, .bf16⟩
  | .local _ .vmem, ⟨4, _⟩ => ⟨S3x4x256x256, .bf16⟩
  | .local _ .vmem, ⟨5, _⟩ => ⟨S3x4x256x256, .bf16⟩
  | .local _ .vmem, ⟨6, _⟩ => ⟨S3x4x256x256, .bf16⟩
  | .local _ .vmem, ⟨7, _⟩ => ⟨S3x4x256x256, .bf16⟩
  | .local _ .vmem, ⟨8, _⟩ => ⟨S3x4x256x256, .bf16⟩
  | .local _ .vmem, ⟨9, _⟩ => ⟨S3x4x256x256, .bf16⟩
  | .local _ .vmem, ⟨10, _⟩ => ⟨S3x2x256x256, .bf16⟩
  | .local _ .vmem, ⟨11, _⟩ => ⟨S3x2x256x256, .bf16⟩
  | .local _ .vmem, ⟨12, _⟩ => ⟨S3x2x256x256, .bf16⟩
  | .local _ .vmem, ⟨13, _⟩ => ⟨S3x256x256, .bf16⟩
  | .local _ .vmem, ⟨14, _⟩ => ⟨S3x256x256, .bf16⟩
  | .local _ .vmem, ⟨15, _⟩ => ⟨S3x256x256, .bf16⟩
  | _, _ => ⟨S2048x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c1_i32_16 : BitVec 32) (c0_i32_17 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v24 : BitVec 32 := Scalar.xori v2 c1_i32_16
  let v25 : BitVec 32 := Scalar.xori v24 c0_i32_17
  let c256_i32 : BitVec 32 := 256#32
  let v26 : BitVec 32 := Scalar.muli v25 c256_i32
  let v27 : Index := Scalar.indexCast v26
  let c0_18 : Index := 0#32
  ![v27.toNat, 0]
def k0_off1_at (r : Fin 12) : BitVec 32 × BitVec 32 :=
  if r.val < 6 then
    if r.val < 3 then
      if r.val < 1 then
        (1#32, 0#32)
      else
        if r.val < 2 then
          (3#32, 0#32)
        else
          (4#32, 0#32)
    else
      if r.val < 4 then
        (1#32, 3#32)
      else
        if r.val < 5 then
          (3#32, 4#32)
        else
          (4#32, 1#32)
  else
    if r.val < 9 then
      if r.val < 7 then
        (1#32, 4#32)
      else
        if r.val < 8 then
          (3#32, 1#32)
        else
          (4#32, 3#32)
    else
      if r.val < 10 then
        (1#32, 7#32)
      else
        if r.val < 11 then
          (3#32, 5#32)
        else
          (4#32, 2#32)
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v24 : BitVec 32 := Scalar.xori v2 c1_i32_16
  let c1_i32_36 : BitVec 32 := 1#32
  let v43 : BitVec 32 := Scalar.muli v24 c1_i32_36
  let v44 : BitVec 32 := Scalar.addi c0_i32_37 v43
  v44.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_42 : BitVec 32 := 3#32
  let v53 : BitVec 32 := Scalar.xori v2 c3_i32_42
  let c1_i32_64 : BitVec 32 := 1#32
  let v72 : BitVec 32 := Scalar.muli v53 c1_i32_64
  let v73 : BitVec 32 := Scalar.addi c0_i32_65 v72
  v73.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v82 : BitVec 32 := Scalar.xori v2 c4_i32_70
  let c1_i32_92 : BitVec 32 := 1#32
  let v101 : BitVec 32 := Scalar.muli v82 c1_i32_92
  let v102 : BitVec 32 := Scalar.addi c0_i32_93 v101
  v102.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_98 : BitVec 32 := 1#32
  let v111 : BitVec 32 := Scalar.xori v2 c1_i32_98
  let c1_i32_121 : BitVec 32 := 1#32
  let v130 : BitVec 32 := Scalar.muli v111 c1_i32_121
  let v131 : BitVec 32 := Scalar.addi c0_i32_122 v130
  v131.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v140 : BitVec 32 := Scalar.xori v2 c3_i32_127
  let c1_i32_149 : BitVec 32 := 1#32
  let v159 : BitVec 32 := Scalar.muli v140 c1_i32_149
  let v160 : BitVec 32 := Scalar.addi c0_i32_150 v159
  v160.toNat
def k0_dev9 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v169 : BitVec 32 := Scalar.xori v2 c4_i32_155
  let c1_i32_177 : BitVec 32 := 1#32
  let v188 : BitVec 32 := Scalar.muli v169 c1_i32_177
  let v189 : BitVec 32 := Scalar.addi c0_i32_178 v188
  v189.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_183 : BitVec 32 := 1#32
  let v198 : BitVec 32 := Scalar.xori v2 c1_i32_183
  let c1_i32_205 : BitVec 32 := 1#32
  let v217 : BitVec 32 := Scalar.muli v198 c1_i32_205
  let v218 : BitVec 32 := Scalar.addi c0_i32_206 v217
  v218.toNat
def k0_dev11 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v227 : BitVec 32 := Scalar.xori v2 c3_i32_211
  let c1_i32_233 : BitVec 32 := 1#32
  let v246 : BitVec 32 := Scalar.muli v227 c1_i32_233
  let v247 : BitVec 32 := Scalar.addi c0_i32_234 v246
  v247.toNat
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_239 : BitVec 32 := 4#32
  let v256 : BitVec 32 := Scalar.xori v2 c4_i32_239
  let c1_i32_261 : BitVec 32 := 1#32
  let v275 : BitVec 32 := Scalar.muli v256 c1_i32_261
  let v276 : BitVec 32 := Scalar.addi c0_i32_262 v275
  v276.toNat
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_267 : BitVec 32 := 1#32
  let v285 : BitVec 32 := Scalar.xori v2 c1_i32_267
  let c1_i32_288 : BitVec 32 := 1#32
  let v304 : BitVec 32 := Scalar.muli v285 c1_i32_288
  let v305 : BitVec 32 := Scalar.addi c0_i32_289 v304
  v305.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_294 : BitVec 32 := 3#32
  let v314 : BitVec 32 := Scalar.xori v2 c3_i32_294
  let c1_i32_315 : BitVec 32 := 1#32
  let v333 : BitVec 32 := Scalar.muli v314 c1_i32_315
  let v334 : BitVec 32 := Scalar.addi c0_i32_316 v333
  v334.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_321 : BitVec 32 := 4#32
  let v343 : BitVec 32 := Scalar.xori v2 c4_i32_321
  let c1_i32_343 : BitVec 32 := 1#32
  let v362 : BitVec 32 := Scalar.muli v343 c1_i32_343
  let v363 : BitVec 32 := Scalar.addi c0_i32_344 v362
  v363.toNat
def k0_dev16 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v372 : BitVec 32 := Scalar.xori v2 c1_i32_349
  let c1_i32_356 : BitVec 32 := 1#32
  let v373 : BitVec 32 := Scalar.muli v372 c1_i32_356
  let v374 : BitVec 32 := Scalar.addi c0_i32_357 v373
  v374.toNat
def k0_dev17 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_362 : BitVec 32 := 3#32
  let v383 : BitVec 32 := Scalar.xori v2 c3_i32_362
  let c1_i32_368 : BitVec 32 := 1#32
  let v384 : BitVec 32 := Scalar.muli v383 c1_i32_368
  let v385 : BitVec 32 := Scalar.addi c0_i32_369 v384
  v385.toNat
def k0_dev18 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_374 : BitVec 32 := 4#32
  let v394 : BitVec 32 := Scalar.xori v2 c4_i32_374
  let c1_i32_380 : BitVec 32 := 1#32
  let v395 : BitVec 32 := Scalar.muli v394 c1_i32_380
  let v396 : BitVec 32 := Scalar.addi c0_i32_381 v395
  v396.toNat
def k0_dev19 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_386 : BitVec 32 := 1#32
  let v405 : BitVec 32 := Scalar.xori v2 c1_i32_386
  let c1_i32_393 : BitVec 32 := 1#32
  let v406 : BitVec 32 := Scalar.muli v405 c1_i32_393
  let v407 : BitVec 32 := Scalar.addi c0_i32_394 v406
  v407.toNat
def k0_dev20 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_399 : BitVec 32 := 3#32
  let v416 : BitVec 32 := Scalar.xori v2 c3_i32_399
  let c1_i32_405 : BitVec 32 := 1#32
  let v417 : BitVec 32 := Scalar.muli v416 c1_i32_405
  let v418 : BitVec 32 := Scalar.addi c0_i32_406 v417
  v418.toNat
def k0_dev21 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_411 : BitVec 32 := 4#32
  let v427 : BitVec 32 := Scalar.xori v2 c4_i32_411
  let c1_i32_417 : BitVec 32 := 1#32
  let v428 : BitVec 32 := Scalar.muli v427 c1_i32_417
  let v429 : BitVec 32 := Scalar.addi c0_i32_418 v428
  v429.toNat
def k0_dev22 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_423 : BitVec 32 := 1#32
  let v438 : BitVec 32 := Scalar.xori v2 c1_i32_423
  let c1_i32_429 : BitVec 32 := 1#32
  let v439 : BitVec 32 := Scalar.muli v438 c1_i32_429
  let v440 : BitVec 32 := Scalar.addi c0_i32_430 v439
  v440.toNat
def k0_dev23 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_435 : BitVec 32 := 3#32
  let v449 : BitVec 32 := Scalar.xori v2 c3_i32_435
  let c1_i32_441 : BitVec 32 := 1#32
  let v450 : BitVec 32 := Scalar.muli v449 c1_i32_441
  let v451 : BitVec 32 := Scalar.addi c0_i32_442 v450
  v451.toNat
def k0_dev24 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_447 : BitVec 32 := 4#32
  let v460 : BitVec 32 := Scalar.xori v2 c4_i32_447
  let c1_i32_453 : BitVec 32 := 1#32
  let v461 : BitVec 32 := Scalar.muli v460 c1_i32_453
  let v462 : BitVec 32 := Scalar.addi c0_i32_454 v461
  v462.toNat
def k0_dev25 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_459 : BitVec 32 := 1#32
  let v471 : BitVec 32 := Scalar.xori v2 c1_i32_459
  let c1_i32_465 : BitVec 32 := 1#32
  let v472 : BitVec 32 := Scalar.muli v471 c1_i32_465
  let v473 : BitVec 32 := Scalar.addi c0_i32_466 v472
  v473.toNat
def k0_dev26 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_471 : BitVec 32 := 3#32
  let v482 : BitVec 32 := Scalar.xori v2 c3_i32_471
  let c1_i32_477 : BitVec 32 := 1#32
  let v483 : BitVec 32 := Scalar.muli v482 c1_i32_477
  let v484 : BitVec 32 := Scalar.addi c0_i32_478 v483
  v484.toNat
def k0_dev27 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_483 : BitVec 32 := 4#32
  let v493 : BitVec 32 := Scalar.xori v2 c4_i32_483
  let c1_i32_489 : BitVec 32 := 1#32
  let v494 : BitVec 32 := Scalar.muli v493 c1_i32_489
  let v495 : BitVec 32 := Scalar.addi c0_i32_490 v494
  v495.toNat
def k0_dev28 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_495 : BitVec 32 := 1#32
  let v504 : BitVec 32 := Scalar.xori v2 c1_i32_495
  let c1_i32_501 : BitVec 32 := 1#32
  let v505 : BitVec 32 := Scalar.muli v504 c1_i32_501
  let v506 : BitVec 32 := Scalar.addi c0_i32_502 v505
  v506.toNat
def k0_dev29 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_507 : BitVec 32 := 3#32
  let v515 : BitVec 32 := Scalar.xori v2 c3_i32_507
  let c1_i32_513 : BitVec 32 := 1#32
  let v516 : BitVec 32 := Scalar.muli v515 c1_i32_513
  let v517 : BitVec 32 := Scalar.addi c0_i32_514 v516
  v517.toNat
def k0_dev30 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_519 : BitVec 32 := 4#32
  let v526 : BitVec 32 := Scalar.xori v2 c4_i32_519
  let c1_i32_525 : BitVec 32 := 1#32
  let v527 : BitVec 32 := Scalar.muli v526 c1_i32_525
  let v528 : BitVec 32 := Scalar.addi c0_i32_526 v527
  v528.toNat
def k0_dev31 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_531 : BitVec 32 := 1#32
  let v537 : BitVec 32 := Scalar.xori v2 c1_i32_531
  let c1_i32_537 : BitVec 32 := 1#32
  let v538 : BitVec 32 := Scalar.muli v537 c1_i32_537
  let v539 : BitVec 32 := Scalar.addi c0_i32_538 v538
  v539.toNat
def k0_dev32 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_543 : BitVec 32 := 3#32
  let v548 : BitVec 32 := Scalar.xori v2 c3_i32_543
  let c1_i32_549 : BitVec 32 := 1#32
  let v549 : BitVec 32 := Scalar.muli v548 c1_i32_549
  let v550 : BitVec 32 := Scalar.addi c0_i32_550 v549
  v550.toNat
def k0_dev33 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_555 : BitVec 32 := 4#32
  let v559 : BitVec 32 := Scalar.xori v2 c4_i32_555
  let c1_i32_561 : BitVec 32 := 1#32
  let v560 : BitVec 32 := Scalar.muli v559 c1_i32_561
  let v561 : BitVec 32 := Scalar.addi c0_i32_562 v560
  v561.toNat
def k0_dev34 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_567 : BitVec 32 := 1#32
  let v570 : BitVec 32 := Scalar.xori v2 c1_i32_567
  let c1_i32_573 : BitVec 32 := 1#32
  let v571 : BitVec 32 := Scalar.muli v570 c1_i32_573
  let v572 : BitVec 32 := Scalar.addi c0_i32_574 v571
  v572.toNat
def k0_dev35 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_579 : BitVec 32 := 3#32
  let v581 : BitVec 32 := Scalar.xori v2 c3_i32_579
  let c1_i32_585 : BitVec 32 := 1#32
  let v582 : BitVec 32 := Scalar.muli v581 c1_i32_585
  let v583 : BitVec 32 := Scalar.addi c0_i32_586 v582
  v583.toNat
def k0_dev36 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_591 : BitVec 32 := 4#32
  let v592 : BitVec 32 := Scalar.xori v2 c4_i32_591
  let c1_i32_597 : BitVec 32 := 1#32
  let v593 : BitVec 32 := Scalar.muli v592 c1_i32_597
  let v594 : BitVec 32 := Scalar.addi c0_i32_598 v593
  v594.toNat
def k0_dev37 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_603 : BitVec 32 := 1#32
  let v603 : BitVec 32 := Scalar.xori v2 c1_i32_603
  let c1_i32_609 : BitVec 32 := 1#32
  let v604 : BitVec 32 := Scalar.muli v603 c1_i32_609
  let v605 : BitVec 32 := Scalar.addi c0_i32_610 v604
  v605.toNat
def k0_dev38 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_615 : BitVec 32 := 3#32
  let v614 : BitVec 32 := Scalar.xori v2 c3_i32_615
  let c1_i32_621 : BitVec 32 := 1#32
  let v615 : BitVec 32 := Scalar.muli v614 c1_i32_621
  let v616 : BitVec 32 := Scalar.addi c0_i32_622 v615
  v616.toNat
def k0_dev39 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_627 : BitVec 32 := 4#32
  let v625 : BitVec 32 := Scalar.xori v2 c4_i32_627
  let c1_i32_633 : BitVec 32 := 1#32
  let v626 : BitVec 32 := Scalar.muli v625 c1_i32_633
  let v627 : BitVec 32 := Scalar.addi c0_i32_634 v626
  v627.toNat
def k0_off2 (d0 : Dev nD) (c4_i32_639 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v636 : BitVec 32 := Scalar.xori v2 c4_i32_639
  let c256_i32_640 : BitVec 32 := 256#32
  let v637 : BitVec 32 := Scalar.muli v636 c256_i32_640
  let v638 : Index := Scalar.indexCast v637
  let c0_641 : Index := 0#32
  ![v638.toNat, 0]
def k0_off2_at (r : Fin 7) : BitVec 32 :=
  if r.val < 3 then
    if r.val < 1 then
      4#32
    else
      if r.val < 2 then
        5#32
      else
        1#32
  else
    if r.val < 5 then
      if r.val < 4 then
        2#32
      else
        3#32
    else
      if r.val < 6 then
        7#32
      else
        0#32
def k0_dev40 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_687 : BitVec 32 := 4#32
  let v708 : BitVec 32 := Scalar.xori v2 c4_i32_687
  let c1_i32_733 : BitVec 32 := 1#32
  let v739 : BitVec 32 := Scalar.muli v708 c1_i32_733
  let v740 : BitVec 32 := Scalar.addi c0_i32_734 v739
  v740.toNat
def k0_dev41 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_687 : BitVec 32 := 4#32
  let v708 : BitVec 32 := Scalar.xori v2 c4_i32_687
  let c1_i32_744 : BitVec 32 := 1#32
  let v749 : BitVec 32 := Scalar.muli v708 c1_i32_744
  let v750 : BitVec 32 := Scalar.addi c0_i32_745 v749
  v750.toNat
def k0_dev42 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_790 : BitVec 32 := 1#32
  let v789 : BitVec 32 := Scalar.xori v2 c1_i32_790
  let c1_i32_836 : BitVec 32 := 1#32
  let v820 : BitVec 32 := Scalar.muli v789 c1_i32_836
  let v821 : BitVec 32 := Scalar.addi c0_i32_837 v820
  v821.toNat
def k0_dev43 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_790 : BitVec 32 := 1#32
  let v789 : BitVec 32 := Scalar.xori v2 c1_i32_790
  let c1_i32_847 : BitVec 32 := 1#32
  let v830 : BitVec 32 := Scalar.muli v789 c1_i32_847
  let v831 : BitVec 32 := Scalar.addi c0_i32_848 v830
  v831.toNat
def k0_dev44 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_893 : BitVec 32 := 3#32
  let v870 : BitVec 32 := Scalar.xori v2 c3_i32_893
  let c1_i32_940 : BitVec 32 := 1#32
  let v901 : BitVec 32 := Scalar.muli v870 c1_i32_940
  let v902 : BitVec 32 := Scalar.addi c0_i32_941 v901
  v902.toNat
def k0_dev45 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_893 : BitVec 32 := 3#32
  let v870 : BitVec 32 := Scalar.xori v2 c3_i32_893
  let c1_i32_952 : BitVec 32 := 1#32
  let v911 : BitVec 32 := Scalar.muli v870 c1_i32_952
  let v912 : BitVec 32 := Scalar.addi c0_i32_953 v911
  v912.toNat
def k0_dev46 (d0 : Dev nD) : Nat :=
  let c0_i32_1045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_998 : BitVec 32 := 4#32
  let v951 : BitVec 32 := Scalar.xori v2 c4_i32_998
  let c1_i32_1044 : BitVec 32 := 1#32
  let v982 : BitVec 32 := Scalar.muli v951 c1_i32_1044
  let v983 : BitVec 32 := Scalar.addi c0_i32_1045 v982
  v983.toNat
def k0_dev47 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_998 : BitVec 32 := 4#32
  let v951 : BitVec 32 := Scalar.xori v2 c4_i32_998
  let c1_i32_1055 : BitVec 32 := 1#32
  let v992 : BitVec 32 := Scalar.muli v951 c1_i32_1055
  let v993 : BitVec 32 := Scalar.addi c0_i32_1056 v992
  v993.toNat
def k0_dev48 (d0 : Dev nD) : Nat :=
  let c0_i32_1148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1101 : BitVec 32 := 1#32
  let v1032 : BitVec 32 := Scalar.xori v2 c1_i32_1101
  let c1_i32_1147 : BitVec 32 := 1#32
  let v1063 : BitVec 32 := Scalar.muli v1032 c1_i32_1147
  let v1064 : BitVec 32 := Scalar.addi c0_i32_1148 v1063
  v1064.toNat
def k0_dev49 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1101 : BitVec 32 := 1#32
  let v1032 : BitVec 32 := Scalar.xori v2 c1_i32_1101
  let c1_i32_1158 : BitVec 32 := 1#32
  let v1073 : BitVec 32 := Scalar.muli v1032 c1_i32_1158
  let v1074 : BitVec 32 := Scalar.addi c0_i32_1159 v1073
  v1074.toNat
def k0_dev50 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1204 : BitVec 32 := 3#32
  let v1113 : BitVec 32 := Scalar.xori v2 c3_i32_1204
  let c1_i32_1250 : BitVec 32 := 1#32
  let v1144 : BitVec 32 := Scalar.muli v1113 c1_i32_1250
  let v1145 : BitVec 32 := Scalar.addi c0_i32_1251 v1144
  v1145.toNat
def k0_dev51 (d0 : Dev nD) : Nat :=
  let c0_i32_1262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1204 : BitVec 32 := 3#32
  let v1113 : BitVec 32 := Scalar.xori v2 c3_i32_1204
  let c1_i32_1261 : BitVec 32 := 1#32
  let v1154 : BitVec 32 := Scalar.muli v1113 c1_i32_1261
  let v1155 : BitVec 32 := Scalar.addi c0_i32_1262 v1154
  v1155.toNat
def k0_dev52 (d0 : Dev nD) : Nat :=
  let c0_i32_1354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1307 : BitVec 32 := 4#32
  let v1194 : BitVec 32 := Scalar.xori v2 c4_i32_1307
  let c1_i32_1353 : BitVec 32 := 1#32
  let v1225 : BitVec 32 := Scalar.muli v1194 c1_i32_1353
  let v1226 : BitVec 32 := Scalar.addi c0_i32_1354 v1225
  v1226.toNat
def k0_dev53 (d0 : Dev nD) : Nat :=
  let c0_i32_1365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1307 : BitVec 32 := 4#32
  let v1194 : BitVec 32 := Scalar.xori v2 c4_i32_1307
  let c1_i32_1364 : BitVec 32 := 1#32
  let v1235 : BitVec 32 := Scalar.muli v1194 c1_i32_1364
  let v1236 : BitVec 32 := Scalar.addi c0_i32_1365 v1235
  v1236.toNat
def k0_dev54 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1410 : BitVec 32 := 1#32
  let v1275 : BitVec 32 := Scalar.xori v2 c1_i32_1410
  let c1_i32_1456 : BitVec 32 := 1#32
  let v1306 : BitVec 32 := Scalar.muli v1275 c1_i32_1456
  let v1307 : BitVec 32 := Scalar.addi c0_i32_1457 v1306
  v1307.toNat
def k0_dev55 (d0 : Dev nD) : Nat :=
  let c0_i32_1468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1410 : BitVec 32 := 1#32
  let v1275 : BitVec 32 := Scalar.xori v2 c1_i32_1410
  let c1_i32_1467 : BitVec 32 := 1#32
  let v1316 : BitVec 32 := Scalar.muli v1275 c1_i32_1467
  let v1317 : BitVec 32 := Scalar.addi c0_i32_1468 v1316
  v1317.toNat
def k0_dev56 (d0 : Dev nD) : Nat :=
  let c0_i32_1560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1513 : BitVec 32 := 3#32
  let v1356 : BitVec 32 := Scalar.xori v2 c3_i32_1513
  let c1_i32_1559 : BitVec 32 := 1#32
  let v1387 : BitVec 32 := Scalar.muli v1356 c1_i32_1559
  let v1388 : BitVec 32 := Scalar.addi c0_i32_1560 v1387
  v1388.toNat
def k0_dev57 (d0 : Dev nD) : Nat :=
  let c0_i32_1571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1513 : BitVec 32 := 3#32
  let v1356 : BitVec 32 := Scalar.xori v2 c3_i32_1513
  let c1_i32_1570 : BitVec 32 := 1#32
  let v1397 : BitVec 32 := Scalar.muli v1356 c1_i32_1570
  let v1398 : BitVec 32 := Scalar.addi c0_i32_1571 v1397
  v1398.toNat
def k0_dev58 (d0 : Dev nD) : Nat :=
  let c0_i32_1646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1616 : BitVec 32 := 1#32
  let v1437 : BitVec 32 := Scalar.xori v2 c1_i32_1616
  let c1_i32_1645 : BitVec 32 := 1#32
  let v1454 : BitVec 32 := Scalar.muli v1437 c1_i32_1645
  let v1455 : BitVec 32 := Scalar.addi c0_i32_1646 v1454
  v1455.toNat
def k0_dev59 (d0 : Dev nD) : Nat :=
  let c0_i32_1681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1651 : BitVec 32 := 3#32
  let v1464 : BitVec 32 := Scalar.xori v2 c3_i32_1651
  let c1_i32_1680 : BitVec 32 := 1#32
  let v1481 : BitVec 32 := Scalar.muli v1464 c1_i32_1680
  let v1482 : BitVec 32 := Scalar.addi c0_i32_1681 v1481
  v1482.toNat
def k0_dev60 (d0 : Dev nD) : Nat :=
  let c0_i32_1716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1686 : BitVec 32 := 4#32
  let v1491 : BitVec 32 := Scalar.xori v2 c4_i32_1686
  let c1_i32_1715 : BitVec 32 := 1#32
  let v1508 : BitVec 32 := Scalar.muli v1491 c1_i32_1715
  let v1509 : BitVec 32 := Scalar.addi c0_i32_1716 v1508
  v1509.toNat
def k0_dev61 (d0 : Dev nD) : Nat :=
  let c0_i32_1751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1721 : BitVec 32 := 1#32
  let v1518 : BitVec 32 := Scalar.xori v2 c1_i32_1721
  let c1_i32_1750 : BitVec 32 := 1#32
  let v1535 : BitVec 32 := Scalar.muli v1518 c1_i32_1750
  let v1536 : BitVec 32 := Scalar.addi c0_i32_1751 v1535
  v1536.toNat
def k0_dev62 (d0 : Dev nD) : Nat :=
  let c0_i32_1786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1756 : BitVec 32 := 3#32
  let v1545 : BitVec 32 := Scalar.xori v2 c3_i32_1756
  let c1_i32_1785 : BitVec 32 := 1#32
  let v1562 : BitVec 32 := Scalar.muli v1545 c1_i32_1785
  let v1563 : BitVec 32 := Scalar.addi c0_i32_1786 v1562
  v1563.toNat
def k0_dev63 (d0 : Dev nD) : Nat :=
  let c0_i32_1821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1791 : BitVec 32 := 4#32
  let v1572 : BitVec 32 := Scalar.xori v2 c4_i32_1791
  let c1_i32_1820 : BitVec 32 := 1#32
  let v1589 : BitVec 32 := Scalar.muli v1572 c1_i32_1820
  let v1590 : BitVec 32 := Scalar.addi c0_i32_1821 v1589
  v1590.toNat
def k0_dev64 (d0 : Dev nD) : Nat :=
  let c0_i32_1856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1826 : BitVec 32 := 1#32
  let v1599 : BitVec 32 := Scalar.xori v2 c1_i32_1826
  let c1_i32_1855 : BitVec 32 := 1#32
  let v1616 : BitVec 32 := Scalar.muli v1599 c1_i32_1855
  let v1617 : BitVec 32 := Scalar.addi c0_i32_1856 v1616
  v1617.toNat
def k0_dev65 (d0 : Dev nD) : Nat :=
  let c0_i32_1891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1861 : BitVec 32 := 3#32
  let v1626 : BitVec 32 := Scalar.xori v2 c3_i32_1861
  let c1_i32_1890 : BitVec 32 := 1#32
  let v1643 : BitVec 32 := Scalar.muli v1626 c1_i32_1890
  let v1644 : BitVec 32 := Scalar.addi c0_i32_1891 v1643
  v1644.toNat
def k0_dev66 (d0 : Dev nD) : Nat :=
  let c0_i32_1926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1896 : BitVec 32 := 4#32
  let v1653 : BitVec 32 := Scalar.xori v2 c4_i32_1896
  let c1_i32_1925 : BitVec 32 := 1#32
  let v1670 : BitVec 32 := Scalar.muli v1653 c1_i32_1925
  let v1671 : BitVec 32 := Scalar.addi c0_i32_1926 v1670
  v1671.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Events.lean ====
/-
The schedule of the reduce-scatter, as plain combinatorics.

The columns are cut in three slices `j`, each slice in three strips `h`; every (slice, strip) sends seven
messages `o` per device: four in the first exchange (`o = 0..3`), two in the second (`4`, `5`), one in the third
(`6`). This file lists what one device does, event by event, and the facts about the order of those events the
proof uses.
-/
module

public import Idealize.ShloMosaic.Lib.Tactic

@[expose] public section

namespace Cert.RS

/-- A message: slice, strip, number. -/
abbrev Msg : Type := Fin 3 × Fin 3 × Fin 7

/-- The place of a message's semaphore in each semaphore array. -/
def num (k : Msg) : ℕ := (k.1.val * 3 + k.2.1.val) * 7 + k.2.2.val

/-- The width of a strip. -/
def wid : Fin 3 → Fin 3 → ℕ
  | 0, _ => 256
  | _, 0 => 128
  | _, _ => 256

/-- The first column of a strip inside its slice. -/
def off : Fin 3 → Fin 3 → ℕ
  | 0, 0 => 0
  | 0, 1 => 256
  | 0, 2 => 512
  | _, 0 => 0
  | _, 1 => 128
  | _, 2 => 384

/-- The first column of a slice. -/
def coff : Fin 3 → ℕ
  | 0 => 0
  | 1 => 768
  | 2 => 1408

/-- The width of a slice. -/
def cw : Fin 3 → ℕ
  | 0 => 768
  | _ => 640

/-- The exchange a message belongs to. -/
def phase : Fin 7 → Fin 3
  | 4 => 1
  | 5 => 1
  | 6 => 2
  | _ => 0

/-- Which of the three partners slice `j` talks to in exchange `q`. -/
def ord (j q : Fin 3) : Fin 3 := j + q

/-- The partner a message goes to (and, the partners being mutual, comes from). -/
def mk (k : Msg) : Fin 3 := ord k.1 (phase k.2.2)

/-- The three partners of a device, by the bits in which their numbers differ. -/
def mask : Fin 3 → ℕ
  | 0 => 1
  | 1 => 3
  | 2 => 4

/-- The bits of the `i`-th block of rows of slice `j`. -/
def span (j : Fin 3) : Fin 4 → ℕ
  | 0 => 0
  | 1 => mask (ord j 1)
  | 2 => mask (ord j 2)
  | 3 => mask (ord j 1) ^^^ mask (ord j 2)

/-- The event kinds of one device's run. -/
inductive Ev where
  /-- The signal to a partner's barrier. -/
  | sig (p : Fin 3)
  /-- The store of the device's rows into its working buffer. -/
  | copyX
  /-- The store of a first-exchange message's contents. -/
  | st (k : Msg)
  /-- The wait on the device's own barrier. -/
  | bar
  /-- The start of a message. -/
  | send (k : Msg)
  /-- The wait for a message to arrive. -/
  | rw (k : Msg)
  /-- The addition of the device's own share to an arrived message. -/
  | acc (k : Msg)
  /-- The store of one strip of the result. -/
  | out (jh : Fin 3 × Fin 3)
  /-- The wait for a message's source to be free. -/
  | sw (k : Msg)
deriving DecidableEq

/-- The order in which the slices are handled after the first exchange has started. -/
def slices : List (Fin 3) := [1, 2, 0]

/-- The messages in the order they are started. -/
def sends : List Msg :=
  ([0, 1, 2, 3].flatMap fun i => [0, 1, 2].map fun j => ((j, 0, i) : Msg))
  ++ ([1, 2].flatMap fun h => [0, 1, 2, 3].flatMap fun i => [0, 1, 2].map fun j => ((j, h, i) : Msg))
  ++ ([0, 1, 2].flatMap fun h => slices.flatMap fun j => [(j, h, 4), (j, h, 5)])
  ++ ([0, 1, 2].flatMap fun h => slices.map fun j => (j, h, 6))

/-- The whole run of one device. -/
def trace : List Ev :=
  [.sig 0, .sig 1, .sig 2, .copyX]
  ++ ([0, 1, 2, 3].flatMap fun i => [0, 1, 2].flatMap fun j =>
      ([0, 1, 2].map fun h => Ev.st (j, h, i))
      ++ (if i = 0 ∧ j = 0 then [Ev.bar] else [])
      ++ [Ev.send (j, 0, i)])
  ++ ([1, 2].flatMap fun h => [0, 1, 2, 3].flatMap fun i => [0, 1, 2].map fun j => Ev.send (j, h, i))
  ++ ([0, 1, 2].flatMap fun h => slices.flatMap fun j =>
      [.rw (j, h, 1), .acc (j, h, 1), .rw (j, h, 3), .acc (j, h, 3), .send (j, h, 4), .send (j, h, 5),
        .rw (j, h, 0), .acc (j, h, 0), .rw (j, h, 2), .acc (j, h, 2)])
  ++ ([0, 1, 2].flatMap fun h => slices.flatMap fun j => [.rw (j, h, 5), .acc (j, h, 5), .send (j, h, 6)])
  ++ ([0, 1, 2].flatMap fun h => slices.flatMap fun j => [.rw (j, h, 4), .rw (j, h, 6), .out (j, h)])
  ++ sends.map .sw

/-- When an event happens; an event that never happens comes after all others. -/
def t (e : Ev) : ℕ := trace.idxOf e

/-- When a message's landing place is passed on as the source of a later message, and which. -/
def fwd (k : Msg) : ℕ := match k.2.2 with
  | 1 => t (.send (k.1, k.2.1, 4))
  | 3 => t (.send (k.1, k.2.1, 5))
  | 5 => t (.send (k.1, k.2.1, 6))
  | _ => 300

/-- The end of the run. -/
abbrev tEnd : ℕ := 284

theorem trace_length : trace.length = tEnd := by decide +kernel

theorem t_inj {e e' : Ev} (h : t e = t e') (he : t e < tEnd) : e = e' :=
  (List.idxOf_inj (List.idxOf_lt_length_iff.mp (by rw [trace_length]; exact he))).mp h

/-- The order of the events of one message. -/
theorem order_send : ∀ k : Msg, t .bar < t (.send k) ∧ t (.send k) < t (.rw k) ∧ t (.rw k) < tEnd ∧ t (.send k) < t (.sw k)
    ∧ t (.sw k) < tEnd := by decide +kernel

theorem order_rw : ∀ k : Msg, t (.rw k) < t (.acc k) ∧ t (.acc k) < fwd k := by decide +kernel

theorem order_st : ∀ j h : Fin 3, ∀ o : Fin 4, t (.st (j, h, o.castLE (by decide))) < t (.send (j, h, o.castLE (by decide))) := by
  decide +kernel

theorem order_sig : ∀ p : Fin 3, t (.sig p) < t .bar := by decide +kernel

end Cert.RS
-- ==== Proof.Regions.lean ====
/-
The places the messages of the reduce-scatter leave from and land in, the semaphore cells that announce them, and
the three partners of a device.
-/
module

public import proofs.«01_k».proof.Proof.Events
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RS

open Cert.KernelIdeal Cert.KernelIdeal.Gen
open Idealize.ShloMosaic
open Idealize.ShloMosaic.TcCoe

/-! ## Partners -/

/-- The device whose number differs from `c`'s in the bits of partner `p`. -/
def peer (p : Fin 3) (c : Dev nD) : Dev nD := ⟨(c.val ^^^ mask p) % 8, Nat.mod_lt _ (by decide)⟩

theorem peer_peer (p : Fin 3) (c : Dev nD) : peer p (peer p c) = c := by revert p c; decide

/-- Trading places with a partner. -/
def swap (p : Fin 3) : Dev nD ≃ Dev nD := ⟨peer p, peer p, peer_peer p, peer_peer p⟩

/-- The device owning block `i` of slice `j`'s rows, seen from `c`. -/
def blk (j : Fin 3) (i : Fin 4) (c : Dev nD) : Dev nD := ⟨(c.val ^^^ span j i) % 8, Nat.mod_lt _ (by decide)⟩

/-! ## Buffers -/

/-- A strip's shape. -/
abbrev Strip (j h : Fin 3) : Shape := ⟨2, ![256, wid j h]⟩

/-- A strip's shape inside the buffers with two leading axes. -/
abbrev Strip4 (j h : Fin 3) : Shape := ⟨4, ![1, 1, 256, wid j h]⟩

/-- A strip's shape inside the buffers with one leading axis. -/
abbrev Strip3 (j h : Fin 3) : Shape := ⟨3, ![1, 256, wid j h]⟩

/-- Where slice `j`'s first messages leave from. -/
def s0B : Fin 3 → Memref sig .tc .vmem S3x4x256x256 .bf16
  | 0 => Memref.whole cc0_scratch1
  | 1 => Memref.whole cc0_scratch2
  | 2 => Memref.whole cc0_scratch3

/-- Where slice `j`'s messages of the first exchange land. -/
def r0B : Fin 3 → Memref sig .tc .vmem S3x4x256x256 .bf16
  | 0 => Memref.whole cc0_scratch4
  | 1 => Memref.whole cc0_scratch5
  | 2 => Memref.whole cc0_scratch6

/-- Where slice `j`'s messages of the second exchange land. -/
def r1B : Fin 3 → Memref sig .tc .vmem S3x2x256x256 .bf16
  | 0 => Memref.whole cc0_scratch7
  | 1 => Memref.whole cc0_scratch8
  | 2 => Memref.whole cc0_scratch9

/-- Where slice `j`'s messages of the third exchange land. -/
def r2B : Fin 3 → Memref sig .tc .vmem S3x256x256 .bf16
  | 0 => Memref.whole cc0_scratch10
  | 1 => Memref.whole cc0_scratch11
  | 2 => Memref.whole cc0_scratch12

theorem wid_le (j h : Fin 3) : wid j h ≤ 256 := by revert j h; decide
theorem wid_pos (j h : Fin 3) : 0 < wid j h := by revert j h; decide

theorem inb4 (j h : Fin 3) (i : Fin 4) :
    ∀ a, (![h.val, i.val, 0, 0] : Fin 4 → ℕ) a + (![1, 1, 256, wid j h] : Fin 4 → ℕ) a ≤ S3x4x256x256.size a := by
  revert j h i; decide
theorem inb2 (j h : Fin 3) (i : Fin 2) :
    ∀ a, (![h.val, i.val, 0, 0] : Fin 4 → ℕ) a + (![1, 1, 256, wid j h] : Fin 4 → ℕ) a ≤ S3x2x256x256.size a := by
  revert j h i; decide
theorem inb1 (j h : Fin 3) :
    ∀ a, (![h.val, 0, 0] : Fin 3 → ℕ) a + (![1, 256, wid j h] : Fin 3 → ℕ) a ≤ S3x256x256.size a := by
  revert j h; decide

/-- The rectangle of strip `h`, block `i` of a four-block buffer. -/
abbrev rect4 (j h : Fin 3) (i : Fin 4) : Rect S3x4x256x256 := Rect.unit (s := S3x4x256x256) ![h.val, i.val, 0, 0] ![1, 1, 256, wid j h] (inb4 j h i)
/-- The rectangle of strip `h`, block `i` of a two-block buffer. -/
abbrev rect2 (j h : Fin 3) (i : Fin 2) : Rect S3x2x256x256 := Rect.unit (s := S3x2x256x256) ![h.val, i.val, 0, 0] ![1, 1, 256, wid j h] (inb2 j h i)
/-- The rectangle of strip `h` of a buffer of strips. -/
abbrev rect1 (j h : Fin 3) : Rect S3x256x256 := Rect.unit (s := S3x256x256) ![h.val, 0, 0] ![1, 256, wid j h] (inb1 j h)

theorem sq4 (j h : Fin 3) : (Strip4 j h).Squeezes (Strip j h) := by revert j h; decide
theorem sq3 (j h : Fin 3) : (Strip3 j h).Squeezes (Strip j h) := by revert j h; decide

theorem cast4 (j h : Fin 3) : (Strip4 j h).ShapeCasts (Strip j h) := by revert j h; decide +kernel
theorem cast4' (j h : Fin 3) : (Strip j h).ShapeCasts (Strip4 j h) := by revert j h; decide +kernel
theorem cast3 (j h : Fin 3) : (Strip3 j h).ShapeCasts (Strip j h) := by revert j h; decide +kernel

/-- A strip of a four-block buffer, as a strip. -/
def view4 (B : Memref sig .tc .vmem S3x4x256x256 .bf16) (j h : Fin 3) (i : Fin 4) : Memref sig .tc .vmem (Strip j h) .bf16 :=
  (B.slice (rect4 j h i) (fun _ => rfl)).squeeze (Strip j h) (sq4 j h)
/-- A strip of a two-block buffer, as a strip. -/
def view2 (B : Memref sig .tc .vmem S3x2x256x256 .bf16) (j h : Fin 3) (i : Fin 2) : Memref sig .tc .vmem (Strip j h) .bf16 :=
  (B.slice (rect2 j h i) (fun _ => rfl)).squeeze (Strip j h) (sq4 j h)
/-- A strip of a buffer of strips, as a strip. -/
def view1 (B : Memref sig .tc .vmem S3x256x256 .bf16) (j h : Fin 3) : Memref sig .tc .vmem (Strip j h) .bf16 :=
  (B.slice (rect1 j h) (fun _ => rfl)).squeeze (Strip j h) (sq3 j h)

/-- Where a message lands. -/
def land (k : Msg) : Memref sig .tc .vmem (Strip k.1 k.2.1) .bf16 := match k with
  | (j, h, 0) => view4 (r0B j) j h 0
  | (j, h, 1) => view4 (r0B j) j h 1
  | (j, h, 2) => view4 (r0B j) j h 2
  | (j, h, 3) => view4 (r0B j) j h 3
  | (j, h, 4) => view2 (r1B j) j h 0
  | (j, h, 5) => view2 (r1B j) j h 1
  | (j, h, 6) => view1 (r2B j) j h

/-- Where a message leaves from: the first exchange's from its own buffer, the later ones from where an earlier
    message landed. -/
def from_ (k : Msg) : Memref sig .tc .vmem (Strip k.1 k.2.1) .bf16 := match k with
  | (j, h, 0) => view4 (s0B j) j h 0
  | (j, h, 1) => view4 (s0B j) j h 1
  | (j, h, 2) => view4 (s0B j) j h 2
  | (j, h, 3) => view4 (s0B j) j h 3
  | (j, h, 4) => land (j, h, 1)
  | (j, h, 5) => land (j, h, 3)
  | (j, h, 6) => land (j, h, 5)

/-! ## Cells -/

theorem inbS (k : Msg) : ∀ a, (![num k] : Fin 1 → ℕ) a + S1.size a ≤ S63.size a := by revert k; decide +kernel

/-- The runtime's barrier semaphore. -/
abbrev barS : Sem sig := (SemArray.scalar (sig.barrier 0 rfl) : Sems sig S_).sem
/-- A message's semaphore at its sender. -/
abbrev sendS (k : Msg) : DmaSem sig := ((cc0_scratch13.slice (Rect.unit (s := S63) ![num k] S1.size (inbS k))).squeeze S_ squeezes_S1_S_).sem
/-- A message's semaphore at its receiver. -/
abbrev recvS (k : Msg) : DmaSem sig := ((cc0_scratch14.slice (Rect.unit (s := S63) ![num k] S1.size (inbS k))).squeeze S_ squeezes_S1_S_).sem

abbrev barCell (c : Dev nD) : GSem nD τ sig := ((c : Thread nD τ), .reg barS)
abbrev sendCell (c : Dev nD) (k : Msg) : GSem nD τ sig := ((c : Thread nD τ), .dma (sendS k))
abbrev recvCell (c : Dev nD) (k : Msg) : GSem nD τ sig := ((c : Thread nD τ), .dma (recvS k))

theorem sendS_val : ∀ k : Msg, (sendS k).val = 3 + num k := by decide +kernel
theorem recvS_val : ∀ k : Msg, (recvS k).val = 66 + num k := by decide +kernel
theorem num_lt : ∀ k : Msg, num k < 63 := by decide +kernel
theorem num_inj {k k' : Msg} (h : num k = num k') : k = k' := by
  obtain ⟨j, i, o⟩ := k; obtain ⟨j', i', o'⟩ := k'
  simp only [num] at h
  refine Prod.ext (Fin.ext ?_) (Prod.ext (Fin.ext ?_) (Fin.ext ?_)) <;> simp only <;> omega

/-- The message at a place of the semaphore arrays. -/
def msgAt (n : ℕ) : Msg := (⟨n / 21 % 3, Nat.mod_lt _ (by decide)⟩, ⟨n / 7 % 3, Nat.mod_lt _ (by decide)⟩, ⟨n % 7, Nat.mod_lt _ (by decide)⟩)
theorem msgAt_num (k : Msg) : msgAt (num k) = k := by revert k; decide +kernel

/-- What a message's arrival adds to its two semaphores. -/
def amt (k : Msg) : ℕ := (land k).view.dmaCredit
theorem strip_numel_pos (j h : Fin 3) : 0 < (Strip j h).numel := by revert j h; decide +kernel
theorem amt_pos (k : Msg) : 0 < amt k := View.dmaCredit_pos _ (strip_numel_pos _ _)
theorem amt_from (k : Msg) : (from_ k).view.dmaCredit = amt k := by
  obtain ⟨j, h, o⟩ := k
  fin_cases j <;> fin_cases o <;> rfl

/-! ## Device numbers -/

theorem dev_eq {n : ℕ} {c : Dev nD} {p : Fin 3} (hn : n < nD) (h : n = (c.val ^^^ mask p) % 8) : (⟨n, hn⟩ : Dev nD) = peer p c := Fin.ext h

end Cert.RS

end
-- ==== Proof.Values.lean ====
/-
The contents every message of the reduce-scatter carries, and every strip of the result, as functions of the two
arrays the devices start from.
-/
module

public import proofs.«01_k».proof.Proof.Regions

@[expose] public section

noncomputable section

namespace Cert.RS

open Cert.KernelIdeal Cert.KernelIdeal.Gen
open Idealize.ShloMosaic
open Idealize.ShloMosaic.TcCoe

variable {F : FTy → Type} [FloatOps F]

/-- A vector of one strip. -/
abbrev SV (F : FTy → Type) (j h : Fin 3) (φ : FTy) : Type := FVec F (Strip j h) φ

/-- A slice's shape. -/
abbrev Slice (j : Fin 3) : Shape := ⟨2, ![256, cw j]⟩

theorem slices_strip (j h : Fin 3) : (Slice j).Slices ![0, off j h] (Strip j h) := by revert j h; decide

/-- The product of 256 rows with the columns of slice `j`, rounded to the wire's format. -/
def tile : (j : Fin 3) → FVec F (Slice j) .bf16 → FVec F S256x256 .bf16 → FVec F (Slice j) .bf16
  | 0, w, x => truncf .bf16 (matmul dot_S256x256_S256x768_S256x768_1_0_0_1_n_n none x w (constant S256x768 .f32 0x00000000#32)) bitsLt_bf16_f32
  | 1, w, x => truncf .bf16 (matmul dot_S256x256_S256x640_S256x640_1_0_0_1_n_n none x w (constant S256x640 .f32 0x00000000#32)) bitsLt_bf16_f32
  | 2, w, x => truncf .bf16 (matmul dot_S256x256_S256x640_S256x640_1_0_0_1_n_n none x w (constant S256x640 .f32 0x00000000#32)) bitsLt_bf16_f32

/-- The columns of strip `h` out of those of slice `j`. -/
def piece (j h : Fin 3) (y : FVec F (Slice j) .bf16) : SV F j h .bf16 := extractStridedSlice (Strip j h) ![0, off j h] y (slices_strip j h)

/-- `y` over one plus the exponential of minus `y`, the exponent kept between -60 and 60. -/
def silu {s : Shape} (y : FVec F s .f32) : FVec F s .f32 :=
  divf y (addf (broadcast s (Scalar.ofBits .f32 0x3F800000#32 : F .f32))
    (exp (subf (broadcast s (Scalar.ofBits .f32 0x00000000#32 : F .f32))
      (minimumf (broadcast s (Scalar.ofBits .f32 0x42700000#32 : F .f32)) (maximumf (broadcast s (Scalar.ofBits .f32 0xC2700000#32 : F .f32)) y)))))

/-- Three strips added up and put through `silu`. -/
def finish (j h : Fin 3) (a b d : SV F j h .bf16) : SV F j h .f32 :=
  silu (addf (addf (extf .f32 a bitsLt_bf16_f32) (extf .f32 b bitsLt_bf16_f32)) (extf .f32 d bitsLt_bf16_f32))

variable (m : (ℓ : Loc nD τ sig) → Buf (Elt F) ℓ)

/-- Device `c`'s block of the first array. -/
def xstg (c : Dev nD) : (cc0_stg0_0 : Ref sig .tc).ty.Contents (Elt F) := (win0_0.blk (0 : Fin 1)).view.read (Elt F) (m ((c : Thread nD τ).loc main_arg0))
/-- Device `c`'s block of the second array. -/
def wstg (c : Dev nD) : (cc0_stg1_0 : Ref sig .tc).ty.Contents (Elt F) := (win0_1.blk (0 : Fin 1)).view.read (Elt F) (m ((c : Thread nD τ).loc main_arg1))

/-- The working copy of device `c`'s block of the first array. -/
def xwork (c : Dev nD) : (cc0_scratch0 : Ref sig .tc).ty.Contents (Elt F) := k0_pay1 (xstg m c)

theorem inbX (d : Dev nD) : ∀ a, (![256 * d.val, 0] : Fin 2 → ℕ) a + S256x256.size a ≤ S2048x256.size a := by revert d; decide
theorem inbW (j : Fin 3) : ∀ a, (![0, coff j] : Fin 2 → ℕ) a + (![256, cw j] : Fin 2 → ℕ) a ≤ S256x2048.size a := by revert j; decide

/-- The rows of the working copy that device `d`'s part of the result needs. -/
def rows (c d : Dev nD) : FVec F S256x256 .bf16 :=
  (Memref.whole cc0_scratch0).view.readAt (Elt F) (Rect.unit (s := S2048x256) ![256 * d.val, 0] S256x256.size (inbX d)).toLoadRect (xwork m c)

/-- The columns of slice `j` of device `c`'s block of the second array. -/
def cols (c : Dev nD) : (j : Fin 3) → FVec F (Slice j) .bf16
  | 0 => k0_pay2 ((Memref.whole cc0_stg1_0).view.readAt (Elt F) (Rect.unit (s := S256x2048) ![0, 0] S256x768.size inb_S256x2048_S256x768_0_0).toLoadRect (wstg m c))
  | 1 => k0_pay3 ((Memref.whole cc0_stg1_0).view.readAt (Elt F) (Rect.unit (s := S256x2048) ![0, 768] S256x640.size inb_S256x2048_S256x640_0_768).toLoadRect (wstg m c))
  | 2 => k0_pay4 ((Memref.whole cc0_stg1_0).view.readAt (Elt F) (Rect.unit (s := S256x2048) ![0, 1408] S256x640.size inb_S256x2048_S256x640_0_1408).toLoadRect (wstg m c))

/-- What device `c` computes for device `d`'s rows of slice `j`. -/
def part (c d : Dev nD) (j : Fin 3) : FVec F (Slice j) .bf16 := tile j (cols m c j) (rows m c d)

/-- The first exchange's message number `i`: the sender's product for block `i` seen from the receiver. -/
def first (j h : Fin 3) (i : Fin 4) (c : Dev nD) : SV F j h .bf16 := piece j h (part m c (blk j i (peer (ord j 0) c)) j)

/-- After the first exchange: the device's own product for block `i` and the arrived one. -/
def sum0 (j h : Fin 3) (i : Fin 4) (c : Dev nD) : SV F j h .bf16 := addf (piece j h (part m c (blk j i c) j)) (first m j h i (peer (ord j 0) c))

/-- After the second exchange. -/
def sum1 (j h : Fin 3) (c : Dev nD) : SV F j h .bf16 := addf (sum0 m j h 2 c) (sum0 m j h 3 (peer (ord j 1) c))

/-- What message `k` of device `c` carries. -/
def msg (k : Msg) (c : Dev nD) : SV F k.1 k.2.1 .bf16 := match k with
  | (j, h, 0) => first m j h 0 c
  | (j, h, 1) => first m j h 1 c
  | (j, h, 2) => first m j h 2 c
  | (j, h, 3) => first m j h 3 c
  | (j, h, 4) => sum0 m j h 1 c
  | (j, h, 5) => sum0 m j h 3 c
  | (j, h, 6) => sum1 m j h c

/-- What is added, on device `c`, to message `k` when it has arrived. -/
def mine (k : Msg) (c : Dev nD) : SV F k.1 k.2.1 .bf16 := match k with
  | (j, h, 0) => piece j h (part m c (blk j 0 c) j)
  | (j, h, 1) => piece j h (part m c (blk j 1 c) j)
  | (j, h, 2) => piece j h (part m c (blk j 2 c) j)
  | (j, h, 3) => piece j h (part m c (blk j 3 c) j)
  | (j, h, 4) => sum0 m j h 0 c
  | (j, h, 5) => sum0 m j h 2 c
  | (j, h, 6) => sum0 m j h 0 c

/-- What lands on device `c` as message `k`. -/
def got (k : Msg) (c : Dev nD) : SV F k.1 k.2.1 .bf16 := msg m k (peer (mk k) c)

/-- What stands there once the device has added its own. -/
def both (k : Msg) (c : Dev nD) : SV F k.1 k.2.1 .bf16 := addf (mine m k c) (got m k c)

/-- A strip of the result. -/
def strip (j h : Fin 3) (c : Dev nD) : SV F j h .f32 := finish j h (both m (j, h, 0) c) (got m (j, h, 4) c) (got m (j, h, 6) c)

/-- The message passed on is what stands where it comes from. -/
theorem msg_fwd (j h : Fin 3) (c : Dev nD) :
    msg m (j, h, 4) c = both m (j, h, 1) c ∧ msg m (j, h, 5) c = both m (j, h, 3) c ∧ msg m (j, h, 6) c = both m (j, h, 5) c := ⟨rfl, rfl, rfl⟩

/-! ## The result as a whole -/

/-- The slice a column belongs to. -/
def sliceOf (x : ℕ) : Fin 3 := if x < 768 then 0 else if x < 1408 then 1 else 2
/-- The strip a column belongs to. -/
def stripOf (x : ℕ) : Fin 3 :=
  if x < 768 then (if x < 256 then 0 else if x < 512 then 1 else 2)
  else if x < 1408 then (if x < 896 then 0 else if x < 1152 then 1 else 2)
  else (if x < 1536 then 0 else if x < 1792 then 1 else 2)

/-- The index of row `r`, column `x` of a strip. -/
def at2 {j h : Fin 3} (r x : ℕ) : (Strip j h).Idx := fun a => match a with
  | 0 => ⟨r % 256, Nat.mod_lt _ (by decide)⟩
  | 1 => ⟨x % wid j h, Nat.mod_lt _ (wid_pos j h)⟩

/-- The result of device `c`: every column from its strip. -/
def result (c : Dev nD) : (cc0_stg2_0 : Ref sig .tc).ty.Contents (Elt F) := fun i =>
  strip m (sliceOf (i 1).val) (stripOf (i 1).val) c
    (at2 (i 0).val ((i 1).val - (coff (sliceOf (i 1).val) + off (sliceOf (i 1).val) (stripOf (i 1).val))))

end Cert.RS

end
-- ==== Proof.Schedule.lean ====
/-
The protocol of the reduce-scatter.

* A device's barrier cell has three duties, one per partner, one unit each. A partner's signal hands over that
  partner's landing places for all messages the device will send it, at any contents.
* A message's cell at its receiver has one duty: the sender's, by the message's landing. It hands over the landing
  place, now holding what the message carries.
* A message's cell at its sender has one duty, by the same landing: it hands back the place the message left from.

Every cell is used for one round only. A device waits on its barrier owing only messages; it waits for a message
when every message it still owes is started later, in every device's order, than the one it waits for. So the
levels are: barrier cells 1, a receiving cell 2 plus the place of its message's start in the run, all others 0.
-/
module

public import proofs.«01_k».proof.Proof.Values

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Payloads -/

/-- Device `c` holds a strip at known contents. -/
def holds (c : Dev nD) {j h : Fin 3} (M : Memref sig .tc .vmem (Strip j h) .bf16) (X : SV F j h .bf16) : sProp 𝕄 :=
  owns (c : Thread nD τ) M fullShare X

/-- Device `c` holds a strip at some contents. -/
def free (c : Dev nD) {j h : Fin 3} (M : Memref sig .tc .vmem (Strip j h) .bf16) : sProp 𝕄 :=
  iprop(∃ f, M.view.loc (c : Thread nD τ) ↦[M.view.set]{fullShare} f)

omit [FloatOps F] in
instance holds_storable (c : Dev nD) {j h : Fin 3} (M : Memref sig .tc .vmem (Strip j h) .bf16) (X : SV F j h .bf16) :
    BI.Storable (upEmb : UEmb _ 𝕄) (holds c M X) := by unfold holds; infer_instance
omit [FloatOps F] in
instance free_storable (c : Dev nD) {j h : Fin 3} (M : Memref sig .tc .vmem (Strip j h) .bf16) :
    BI.Storable (upEmb : UEmb _ 𝕄) (free (F := F) c M) := by unfold free; infer_instance

/-- One landing place handed over by partner `p` of `c`: only those of messages exchanged with `p`. -/
def lent (c : Dev nD) (p : Fin 3) (k : Msg) : sProp 𝕄 := if mk k = p then free (peer p c) (land k) else iprop(emp)

omit [FloatOps F] in
instance lent_storable (c : Dev nD) (p : Fin 3) (k : Msg) : BI.Storable (upEmb : UEmb _ 𝕄) (lent (F := F) c p k) := by
  unfold lent; split <;> infer_instance

/-- What partner `p`'s signal hands `c`. -/
def barPay (c : Dev nD) (p : Fin 3) : sProp 𝕄 := bigSep Finset.univ (lent c p)
/-- What the arrival of message `k` hands its receiver `c`. -/
def recvPay (c : Dev nD) (k : Msg) : sProp 𝕄 := holds c (land k) (got m k c)
/-- What the arrival of message `k` hands back to its sender `c`. -/
def sendPay (c : Dev nD) (k : Msg) : sProp 𝕄 := holds c (from_ k) (msg m k c)

/-- The duties' payload at a cell. -/
def pay (c : Dev nD) (sm : SemLoc sig) (d : Fin 3) : sProp 𝕄 := match sm with
  | .reg _ => barPay c d
  | .dma q => if q.val < 66 then sendPay m c (msgAt (q.val - 3)) else recvPay m c (msgAt (q.val - 66))

instance pay_storable (c : Dev nD) (sm : SemLoc sig) (d : Fin 3) : BI.Storable (upEmb : UEmb _ 𝕄) (pay m c sm d) := by
  cases sm with
  | reg s => show BI.Storable upEmb (bigSep Finset.univ (lent c d)); infer_instance
  | dma q =>
    show BI.Storable upEmb (if q.val < 66 then sendPay m c (msgAt (q.val - 3)) else recvPay m c (msgAt (q.val - 66)))
    unfold sendPay recvPay; split <;> infer_instance

/-! ## The schedule -/

/-- The duties of a cell's one round. -/
def dutiesOf (sm : SemLoc sig) : Finset (Fin 3) := match sm with
  | .reg _ => Finset.univ
  | .dma q => if q.val < 3 then ∅ else {0}

/-- A duty's amount at a cell. -/
def amtOf (sm : SemLoc sig) : ℕ := match sm with
  | .reg _ => 1
  | .dma q => if q.val < 66 then amt (msgAt (q.val - 3)) else amt (msgAt (q.val - 66))

def rsRd : Rounds.Schedule (GSem nD τ sig) (Fin 3) 𝕄 where
  duties g r := if r = 0 ∧ g.1.2 = .tc then dutiesOf g.2 else ∅
  unitless _ := False
  amount g _ _ := amtOf g.2
  payload g _ d := pay m g.1.1 g.2 d
  amount_pos g _ _ _ := by
    obtain ⟨_, sm⟩ := g
    cases sm with
    | reg s => exact Nat.one_pos
    | dma q => simp only [amtOf]; split <;> exact amt_pos _

instance rsRd_payload_storable (g : GSem nD τ sig) (r : ℕ) (d : Fin 3) :
    BI.Storable (upEmb : UEmb _ 𝕄) ((rsRd m).payload g r d) := pay_storable m g.1.1 g.2 d

section Sched
variable (c : Dev nD) (k : Msg)

theorem send_lt : (sendS k).val < 66 := by rw [sendS_val]; have := num_lt k; omega
theorem send_ge : ¬ (sendS k).val < 3 := by rw [sendS_val]; omega
theorem recv_ge : ¬ (recvS k).val < 66 := by rw [recvS_val]; omega
theorem recv_ge' : ¬ (recvS k).val < 3 := by rw [recvS_val]; omega
theorem send_at : msgAt ((sendS k).val - 3) = k := by rw [sendS_val, Nat.add_sub_cancel_left, msgAt_num]
theorem recv_at : msgAt ((recvS k).val - 66) = k := by rw [recvS_val, Nat.add_sub_cancel_left, msgAt_num]

theorem duties_zero (sm : SemLoc sig) : (rsRd m).duties ((c : Thread nD τ), sm) 0 = dutiesOf sm := by
  dsimp only [rsRd]; exact if_pos ⟨rfl, rfl⟩
theorem duties_bar : (rsRd m).duties (barCell c) 0 = Finset.univ := duties_zero m c _
theorem duties_send : (rsRd m).duties (sendCell c k) 0 = {0} := (duties_zero m c _).trans (if_neg (send_ge k))
theorem duties_recv : (rsRd m).duties (recvCell c k) 0 = {0} := (duties_zero m c _).trans (if_neg (recv_ge' k))
theorem duties_later (g : GSem nD τ sig) : ∀ r, 1 ≤ r → (rsRd m).duties g r = ∅ :=
  fun r hr => by dsimp only [rsRd]; exact if_neg fun h => by omega

theorem amount_bar (d : Fin 3) : (rsRd m).amount (barCell c) 0 d = 1 := rfl
theorem amount_send (d : Fin 3) : (rsRd m).amount (sendCell c k) 0 d = amt k := (if_pos (send_lt k)).trans (congrArg amt (send_at k))
theorem amount_recv (d : Fin 3) : (rsRd m).amount (recvCell c k) 0 d = amt k := (if_neg (recv_ge k)).trans (congrArg amt (recv_at k))

theorem expect_bar : (rsRd m).expect (barCell c) 0 = 3 := by
  unfold Schedule.expect Schedule.amountOf
  rw [duties_bar, Finset.sum_congr rfl fun d _ => amount_bar m c d]; rfl
theorem expect_send : (rsRd m).expect (sendCell c k) 0 = amt k := by
  unfold Schedule.expect Schedule.amountOf; rw [duties_send, Finset.sum_singleton, amount_send]
theorem expect_recv : (rsRd m).expect (recvCell c k) 0 = amt k := by
  unfold Schedule.expect Schedule.amountOf; rw [duties_recv, Finset.sum_singleton, amount_recv]

theorem payload_bar (d : Fin 3) : (rsRd m).payload (barCell c) 0 d = barPay c d := rfl
theorem payload_send (d : Fin 3) : (rsRd m).payload (sendCell c k) 0 d = sendPay m c k :=
  (if_pos (send_lt k)).trans (congrArg (sendPay m c) (send_at k))
theorem payload_recv (d : Fin 3) : (rsRd m).payload (recvCell c k) 0 d = recvPay m c k :=
  (if_neg (recv_ge k)).trans (congrArg (recvPay m c) (recv_at k))

theorem rest_bar : bigSep ((rsRd m).duties (barCell c) 0 \ ∅) (fun d => (rsRd m).payload (barCell c) 0 d) = bigSep Finset.univ (barPay (F := F) c) := by
  rw [Finset.sdiff_empty, duties_bar]; rfl
theorem rest_send : bigSep ((rsRd m).duties (sendCell c k) 0 \ ∅) (fun d => (rsRd m).payload (sendCell c k) 0 d) = sendPay m c k := by
  rw [Finset.sdiff_empty, duties_send, bigSep_singleton, payload_send]
theorem rest_recv : bigSep ((rsRd m).duties (recvCell c k) 0 \ ∅) (fun d => (rsRd m).payload (recvCell c k) 0 d) = recvPay m c k := by
  rw [Finset.sdiff_empty, duties_recv, bigSep_singleton, payload_recv]

end Sched

/-! ## What a device owes after its first `n` events -/

/-- One message's share. -/
def oweMsg (c : Dev nD) (n : ℕ) (k : Msg) : CellTallies nD τ sig Unit :=
  if t (.send k) < n then 0 else tallyAt (recvCell (peer (mk k) c) k) () (amt k)
/-- One signal's share. -/
def oweSig (c : Dev nD) (n : ℕ) (p : Fin 3) : CellTallies nD τ sig Unit :=
  if t (.sig p) < n then 0 else tallyAt (barCell (peer p c)) () 1
def owed (c : Dev nD) (n : ℕ) : CellTallies nD τ sig Unit := (∑ k, oweMsg c n k) + ∑ p, oweSig c n p

def L (g : GSem nD τ sig) : Finset Unit := if g.1.2 = .tc then {()} else ∅
/-- The level of a semaphore. -/
def lvOf (sm : SemLoc sig) : ℕ := match sm with
  | .reg _ => 1
  | .dma q => if q.val < 66 then 0 else 2 + t (.send (msgAt (q.val - 66)))
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Msg) (u : Unit) : lv (recvCell c k) u = 2 + t (.send k) :=
  (if_neg (recv_ge k)).trans (by rw [recv_at])

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- Whatever is owed is owed to a message not yet started or to a signal not yet given. -/
theorem owed_pos {c : Dev nD} {n : ℕ} {g : GSem nD τ sig} {u : Unit} (h : 0 < owed c n g u) :
    (∃ k, n ≤ t (.send k) ∧ g = recvCell (peer (mk k) c) k) ∨ ∃ p, n ≤ t (.sig p) ∧ g = barCell (peer p c) := by
  unfold owed at h
  rw [Pi.add_apply, Finsupp.add_apply, Finset.sum_apply, Finset.sum_apply, Finsupp.finset_sum_apply, Finsupp.finset_sum_apply] at h
  rcases Nat.lt_or_ge 0 (∑ k, oweMsg c n k g u) with h1 | h1
  · obtain ⟨k, -, hk⟩ := Finset.exists_ne_zero_of_sum_ne_zero (Nat.pos_iff_ne_zero.mp h1)
    refine .inl ⟨k, ?_⟩
    unfold oweMsg at hk
    by_cases hn : t (.send k) < n
    · rw [if_pos hn] at hk; exact absurd rfl hk
    · rw [if_neg hn] at hk; exact ⟨Nat.le_of_not_lt hn, tallyAt_pos (Nat.pos_of_ne_zero hk)⟩
  · have h2 : (∑ p, oweSig c n p g u) ≠ 0 := by omega
    obtain ⟨p, -, hp⟩ := Finset.exists_ne_zero_of_sum_ne_zero h2
    refine .inr ⟨p, ?_⟩
    unfold oweSig at hp
    by_cases hn : t (.sig p) < n
    · rw [if_pos hn] at hp; exact absurd rfl hp
    · rw [if_neg hn] at hp; exact ⟨Nat.le_of_not_lt hn, tallyAt_pos (Nat.pos_of_ne_zero hp)⟩

/-- Every cell owed to is a TensorCore's, and above any level the messages and signals still to come are above. -/
theorem mayWait_of (c : Dev nD) (sm : SemLoc sig) (n b : ℕ) (hb : lvOf sm ≤ b)
    (hm : ∀ k, n ≤ t (.send k) → b < 2 + t (.send k)) (hs : ∀ p, n ≤ t (.sig p) → b < 1) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by
      rcases owed_pos hg with ⟨k, -, rfl⟩ | ⟨p, -, rfl⟩ <;> exact Finset.mem_singleton_self _)
    (fun p hp => by rw [Finset.mem_singleton.mp hp]; exact hb)
    (fun g u hg => by
      rcases owed_pos hg with ⟨k, hk, rfl⟩ | ⟨p, hp, rfl⟩
      · rw [lv_recv]; exact hm k hk
      · exact hs p hp)

/-- At its barrier a device has given every signal. -/
theorem mayWait_bar (c : Dev nD) : (levAts L lv : sProp 𝕄) ⊢ MayWait (c : Thread nD τ) (.reg barS) () (owed c (t .bar)) :=
  mayWait_of c _ _ 1 (Nat.le_refl 1) (fun k _ => by omega) (fun p hp => absurd (order_sig p) (by omega))

/-- Waiting for a message, every message still owed is started later than it was. -/
theorem mayWait_recv (c : Dev nD) (k : Msg) : (levAts L lv : sProp 𝕄) ⊢ MayWait (c : Thread nD τ) (.dma (recvS k)) () (owed c (t (.rw k))) :=
  have hk := order_send k
  mayWait_of c _ _ (2 + t (.send k)) (Nat.le_of_eq (lv_recv c k ())) (fun k' h => by omega)
    (fun p hp => absurd (order_sig p) (by omega))

/-- Any other semaphore may be waited on whatever is owed. -/
theorem mayWait_low (c : Dev nD) (q : DmaSem sig) (hq : q.val < 66) (n : ℕ) :
    (levAts L lv : sProp 𝕄) ⊢ MayWait (c : Thread nD τ) (.dma q) () (owed c n) :=
  mayWait_of c _ _ 0 (Nat.le_of_eq (if_pos hq)) (fun k _ => by omega) (fun _ _ => Nat.one_pos)

end Cert.RS

end
-- ==== Proof.Place.lean ====
/-
Loads and stores of one strip: the place a message lands in or leaves from is a rectangle of a buffer, seen with its
unit axes dropped; the program loads and stores it with them.
-/
module

public import proofs.«01_k».proof.Proof.Schedule

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core runs a program. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {α : Type}

omit [FloatOps F] in
theorem holds_free {j h : Fin 3} (M : Memref sig .tc .vmem (Strip j h) .bf16) (X : SV F j h .bf16) : holds c M X ⊢ free (F := F) c M := by
  unfold holds free owns
  iintro ⟨%f, -, H⟩
  iexists f; iexact H

section Strip

variable {s : Shape} {j h : Fin 3} (B : Memref sig .tc .vmem s .bf16) (r : Rect s) (hr : ∀ a, r.stride a = 1)
  (hq : r.shape.Squeezes (Strip j h)) (hc : r.shape.ShapeCasts (Strip j h)) (hc' : (Strip j h).ShapeCasts r.shape)

/-- A strip of a buffer. -/
abbrev place : Memref sig .tc .vmem (Strip j h) .bf16 := (B.slice r hr).squeeze (Strip j h) hq

theorem place_set : (place B r hr hq).view.set = (B.access r).set := Memref.set_view_squeeze _ hq

omit [FloatOps F] in
include hc in
theorem place_read (f : B.view.ty.Contents (Elt F)) (X : SV F j h .bf16) (hX : (place B r hr hq).view.read (Elt F) f = X) :
    B.view.readAt (Elt F) r.toLoadRect f = shapeCast r.shape X hc' := by
  rw [← hX, Memref.read_squeeze_slice B r hr hq hc, shapeCast_shapeCast]

include hc in
/-- Loading a held strip. -/
theorem load_held (X : SV F j h .bf16) {Q : α → sProp 𝕄} {hl : B.view.LoadsAt r.toLoadRect}
    {k : (r.toLoadRect.shape.Idx → Elt F .bf16) → Prog (TpuEff nD τ sig (Elt F) Λ₀ .tc) α} :
    holds c (place B r hr hq) X ⊢ iprop((holds c (place B r hr hq) X -∗ run c (k (shapeCast r.shape X hc')) Q)
      -∗ run c (.op (.load B r.toLoadRect hl) k) Q) := by
  unfold holds owns
  iintro ⟨%f, %hf, H⟩ Hk
  rw [place_set]
  iapply (wp_load 𝒱₀ (c : Thread nD τ) none Set.univ (m := B) (r := r.toLoadRect) (S := (B.access r).set) (by rw [View.set_slice]; exact Finset.Subset.refl _)) $$ H
  iintro H
  rw [place_read B r hr hq hc hc' f X hf]
  iapply Hk
  iexists f
  isplitr; · ipureintro; exact hf
  iexact H

/-- Loading a strip whose contents are not known. -/
theorem load_free {Q : α → sProp 𝕄} {hl : B.view.LoadsAt r.toLoadRect}
    {k : (r.toLoadRect.shape.Idx → Elt F .bf16) → Prog (TpuEff nD τ sig (Elt F) Λ₀ .tc) α} :
    free c (place B r hr hq) ⊢ iprop((∀ v, free c (place B r hr hq) -∗ run c (k v) Q)
      -∗ run c (.op (.load B r.toLoadRect hl) k) Q) := by
  unfold free
  iintro ⟨%f, H⟩ Hk
  rw [place_set]
  iapply (wp_load 𝒱₀ (c : Thread nD τ) none Set.univ (m := B) (r := r.toLoadRect) (S := (B.access r).set) (by rw [View.set_slice]; exact Finset.Subset.refl _)) $$ H
  iintro H
  iapply Hk $$ %(B.view.readAt (Elt F) r.toLoadRect f)
  iexists f
  iexact H

include hc in
/-- Storing a strip. -/
theorem store_free (X : SV F j h .bf16) {w : r.shape.Idx → Elt F .bf16} (hw : w = shapeCast r.shape X hc')
    {Q : α → sProp 𝕄} {hx : (B.access r).Stores Finset.univ} {hm : (Finset.univ : Finset r.shape.Idx) = Finset.univ ∨ ∀ a, r.stride a = 1}
    {k : PUnit → Prog (TpuEff nD τ sig (Elt F) Λ₀ .tc) α} :
    free c (place B r hr hq) ⊢ iprop((holds c (place B r hr hq) X -∗ run c (k ⟨⟩) Q)
      -∗ run c (.op (.store B r w Finset.univ hx hm) k) Q) := by
  unfold free holds owns
  iintro ⟨%f, H⟩ Hk
  rw [place_set]
  iapply (wp_store 𝒱₀ (c : Thread nD τ) none Set.univ (m := B) (r := r) (Mk := Finset.univ) (S := (B.access r).set) (Finset.Subset.refl _)) $$ H
  iintro H
  iapply Hk
  iexists ((B.access r).write (Elt F) f w Finset.univ)
  isplitr
  · ipureintro
    show shapeCast (Strip j h) ((B.access r).read (Elt F) ((B.access r).write (Elt F) f w Finset.univ)) hc = X
    rw [View.read_write_univ, hw, shapeCast_shapeCast]
  iexact H

end Strip

end Cert.RS

end
-- ==== Proof.State.lean ====
/-
What a device holds after its first `n` events: message by message, what stands at the places it leaves from and lands
in, and how far its semaphores are; the signals, the barrier, the debts, the working buffer, the two inputs and the
output.
-/
module

public import proofs.«01_k».proof.Proof.Place

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is known to every device -/

/-- The cells of a device: its barrier, and a sending and a receiving one for each message. -/
abbrev CI : Type := Option (Bool × Msg)

def csem : CI → SemLoc sig
  | none => .reg barS
  | some (false, k) => .dma (sendS k)
  | some (true, k) => .dma (recvS k)

abbrev kcell (ck : Dev nD × CI) : GSem nD τ sig := ((ck.1 : Thread nD τ), csem ck.2)

section

variable (m : (ℓ : Loc nD τ sig) → Buf (Elt F) ℓ) (K : Dev nD × CI → ℕ) (c : Dev nD)

/-- The cells' invariants, that every cell has reached its round, and the levels. -/
def Rec : sProp 𝕄 :=
  iprop(bigSep Finset.univ (fun ck => cellInv ER (rsRd m) (K ck) (kcell ck)) ∗ bigSep Finset.univ (fun ck => reached ER (kcell ck) 0) ∗ levAts L lv)

omit [FloatOps F] in
theorem pick {I : Type} [Fintype I] [DecidableEq I] {Φ : I → sProp 𝕄} (i : I) : bigSep Finset.univ Φ ⊢ Φ i := bigSep_elim (Finset.mem_univ i)

instance Rec_persistent : BI.Persistent (Rec m K) := by unfold Rec; infer_instance

theorem inv_of (ck : Dev nD × CI) : Rec m K ⊢ cellInv ER (rsRd m) (K ck) (kcell ck) := by
  unfold Rec
  iintro ⟨H, -, -⟩
  iapply (pick ck) $$ H
theorem reached_of (ck : Dev nD × CI) : Rec m K ⊢ reached ER (kcell ck) 0 := by
  unfold Rec
  iintro ⟨-, H, -⟩
  iapply (pick ck) $$ H
theorem lev_of : Rec m K ⊢ levAts L lv := by
  unfold Rec
  iintro ⟨-, -, H⟩
  iexact H

/-! ## One message -/

/-- The place message `k` leaves from. -/
def srcAt (n : ℕ) (k : Msg) : sProp 𝕄 :=
  if t (.sw k) < n then holds c (from_ k) (msg m k c)
  else if t (.send k) < n ∨ 4 ≤ k.2.2.val then iprop(emp)
  else if t (.st k) < n then holds c (from_ k) (msg m k c)
  else free c (from_ k)

/-- The place message `k` lands in. -/
def dstAt (n : ℕ) (k : Msg) : sProp 𝕄 :=
  if ¬ t (.sig (mk k)) < n then free c (land k)
  else if ¬ t (.rw k) < n then iprop(emp)
  else if ¬ t (.acc k) < n then holds c (land k) (got m k c)
  else if fwd k < n then iprop(emp)
  else holds c (land k) (both m k c)

/-- The partner's place message `k` will land in. -/
def peerAt (n : ℕ) (k : Msg) : sProp 𝕄 := if t .bar < n ∧ ¬ t (.send k) < n then free (peer (mk k) c) (land k) else iprop(emp)

/-- The device's sending cell of message `k`. -/
def sendAt (n : ℕ) (k : Msg) : sProp 𝕄 :=
  if t (.sw k) < n then semVal (sendCell c k) 0
  else iprop(atPos ER (sendCell c k) 0 ∅ 0
    ∗ (if t (.send k) < n then cred (tallyAt (sendCell c k) () (amt k)) else dutyTok ER (sendCell c k) 0 (0 : Fin 3)))

/-- The device's receiving cell of message `k`. -/
def recvAt (n : ℕ) (k : Msg) : sProp 𝕄 :=
  if t (.rw k) < n then semVal (recvCell c k) 0
  else iprop(atPos ER (recvCell c k) 0 ∅ 0 ∗ cred (tallyAt (recvCell c k) () (amt k)))

/-- The right to announce message `k` to its receiver. -/
def tokAt (n : ℕ) (k : Msg) : sProp 𝕄 := if t (.send k) < n then iprop(emp) else dutyTok ER (recvCell (peer (mk k) c) k) 0 (0 : Fin 3)

def slot (n : ℕ) (k : Msg) : sProp 𝕄 :=
  iprop(srcAt m c n k ∗ dstAt m c n k ∗ peerAt c n k ∗ sendAt c n k ∗ recvAt c n k ∗ tokAt c n k)

/-! ## The rest -/

def sigAt (n : ℕ) (p : Fin 3) : sProp 𝕄 := if t (.sig p) < n then iprop(emp) else dutyTok ER (barCell (peer p c)) 0 p

def barAt (n : ℕ) : sProp 𝕄 :=
  if t .bar < n then semVal (barCell c) 0 else iprop(atPos ER (barCell c) 0 ∅ 0 ∗ cred (tallyAt (barCell c) () 3))

def oweAt (n : ℕ) : sProp 𝕄 := iprop(∃ W, owes (c : Thread nD τ) (owed c n) W)

def xAt (n : ℕ) : sProp 𝕄 :=
  if t .copyX < n then iprop(((c : Thread nD τ).loc cc0_scratch0) ↦{fullShare} (xwork m c))
  else iprop(∃ f, ((c : Thread nD τ).loc cc0_scratch0) ↦{fullShare} f)

def inAt : sProp 𝕄 :=
  iprop((((c : Thread nD τ).loc cc0_stg0_0) ↦{fullShare} (xstg m c)) ∗ (((c : Thread nD τ).loc cc0_stg1_0) ↦{fullShare} (wstg m c)))

/-- What is known of the output when the strips stored before event `n` are. -/
def outOk (n : ℕ) (f : (cc0_stg2_0 : Ref sig .tc).ty.Contents (Elt F)) : Prop :=
  ∀ i, t (.out (sliceOf (i 1).val, stripOf (i 1).val)) < n → f i = result m c i

def outAt (n : ℕ) : sProp 𝕄 :=
  iprop(∃ f : Buf (Elt F) ((c : Thread nD τ).loc cc0_stg2_0), ⌜outOk m c n f⌝ ∗ (((c : Thread nD τ).loc cc0_stg2_0) ↦{fullShare} f))

def misc (n : ℕ) : sProp 𝕄 := iprop(bigSep Finset.univ (sigAt c n) ∗ barAt c n ∗ xAt m c n ∗ inAt m c ∗ outAt m c n)

/-- All a device holds after its first `n` events. -/
def St (n : ℕ) : sProp 𝕄 := iprop(Rec m K ∗ bigSep Finset.univ (slot m c n) ∗ oweAt c n ∗ misc m c n)

end

/-! ## What one event leaves alone -/

/-- Event `e` is the next after `n`. -/
def Now (e : Ev) (n : ℕ) : Prop := t e = n ∧ n < tEnd

instance (e : Ev) (n : ℕ) : Decidable (Now e n) := inferInstanceAs (Decidable (_ ∧ _))

theorem Now.done {e : Ev} {n : ℕ} (h : Now e n) : t e < n + 1 := by have := h.1; omega
theorem Now.todo {e : Ev} {n : ℕ} (h : Now e n) : ¬ t e < n := by have := h.1; omega
theorem Now.ne {e e' : Ev} {n : ℕ} (h : Now e n) (he : e ≠ e') : t e' ≠ n := fun h' =>
  he (t_inj (h.1.trans h'.symm) (by rw [h.1]; exact h.2))
theorem Now.other {e e' : Ev} {n : ℕ} (h : Now e n) (he : e ≠ e') : (t e' < n + 1) = (t e' < n) :=
  propext (by have := h.ne he; omega)

/-- The message whose landing place a later message leaves from. -/
def src0 : Msg → Msg
  | (j, h, 4) => (j, h, 1)
  | (j, h, 5) => (j, h, 3)
  | (j, h, 6) => (j, h, 5)
  | k => k

theorem fwd_src0 (k : Msg) (hk : 4 ≤ k.2.2.val) : fwd (src0 k) = t (.send k) := by
  obtain ⟨j, h, o⟩ := k
  fin_cases o <;> first | rfl | exact absurd hk (by dsimp only; decide)

theorem fwd_some {k : Msg} {n : ℕ} (h : fwd k = n) (hn : n < tEnd) : ∃ k', 4 ≤ k'.2.2.val ∧ src0 k' = k ∧ t (.send k') = n := by
  obtain ⟨j, i, o⟩ := k
  fin_cases o
  · exact absurd h (by simp only [fwd]; unfold tEnd at hn; omega)
  · exact ⟨(j, i, 4), Nat.le_of_ble_eq_true rfl, rfl, h⟩
  · exact absurd h (by simp only [fwd]; unfold tEnd at hn; omega)
  · exact ⟨(j, i, 5), Nat.le_of_ble_eq_true rfl, rfl, h⟩
  · exact absurd h (by simp only [fwd]; unfold tEnd at hn; omega)
  · exact ⟨(j, i, 6), Nat.le_of_ble_eq_true rfl, rfl, h⟩
  · exact absurd h (by simp only [fwd]; unfold tEnd at hn; omega)

/-- Event `e` does not concern message `k`. -/
structure Quiet (e : Ev) (k : Msg) : Prop where
  sw : e ≠ .sw k
  send : e ≠ .send k
  st : e ≠ .st k
  sig : e ≠ .sig (mk k)
  rw : e ≠ .rw k
  acc : e ≠ .acc k
  bar : e ≠ .bar
  fwd : ∀ k', e = .send k' → 4 ≤ k'.2.2.val → src0 k' ≠ k

section

variable (m : (ℓ : Loc nD τ sig) → Buf (Elt F) ℓ) (K : Dev nD × CI → ℕ) (c : Dev nD) {e : Ev} {n : ℕ} (hn : Now e n)

include hn

theorem fwd_other {k : Msg} (hq : ∀ k', e = .send k' → 4 ≤ k'.2.2.val → src0 k' ≠ k) : (fwd k < n + 1) = (fwd k < n) := by
  refine propext ?_
  have : fwd k ≠ n := fun h => by
    obtain ⟨k', h1, h2, h3⟩ := fwd_some h hn.2
    exact hq k' (t_inj (hn.1.trans h3.symm) (by rw [hn.1]; exact hn.2)) h1 h2
  omega

theorem srcAt_succ {k : Msg} (h1 : e ≠ .sw k) (h2 : e ≠ .send k) (h3 : e ≠ .st k) : srcAt m c (n + 1) k = srcAt m c n k := by
  unfold srcAt; simp only [hn.other h1, hn.other h2, hn.other h3]
theorem dstAt_succ {k : Msg} (h1 : e ≠ .sig (mk k)) (h2 : e ≠ .rw k) (h3 : e ≠ .acc k)
    (h4 : ∀ k', e = .send k' → 4 ≤ k'.2.2.val → src0 k' ≠ k) : dstAt m c (n + 1) k = dstAt m c n k := by
  unfold dstAt; simp only [hn.other h1, hn.other h2, hn.other h3, fwd_other hn h4]
omit [FloatOps F] in
theorem peerAt_succ {k : Msg} (h1 : e ≠ .bar) (h2 : e ≠ .send k) : peerAt (F := F) c (n + 1) k = peerAt c n k := by
  unfold peerAt; simp only [hn.other h1, hn.other h2]
omit [FloatOps F] in
theorem sendAt_succ {k : Msg} (h1 : e ≠ .sw k) (h2 : e ≠ .send k) : sendAt (F := F) c (n + 1) k = sendAt c n k := by
  unfold sendAt; simp only [hn.other h1, hn.other h2]
omit [FloatOps F] in
theorem recvAt_succ {k : Msg} (h1 : e ≠ .rw k) : recvAt (F := F) c (n + 1) k = recvAt c n k := by
  unfold recvAt; simp only [hn.other h1]
omit [FloatOps F] in
theorem tokAt_succ {k : Msg} (h1 : e ≠ .send k) : tokAt (F := F) c (n + 1) k = tokAt c n k := by
  unfold tokAt; simp only [hn.other h1]

theorem slot_succ {k : Msg} (hq : Quiet e k) : slot m c (n + 1) k = slot m c n k := by
  unfold slot
  rw [srcAt_succ m c hn hq.sw hq.send hq.st, dstAt_succ m c hn hq.sig hq.rw hq.acc hq.fwd, peerAt_succ c hn hq.bar hq.send,
    sendAt_succ c hn hq.sw hq.send, recvAt_succ c hn hq.rw, tokAt_succ c hn hq.send]

theorem slots_succ {s : Finset Msg} (hq : ∀ k ∈ s, Quiet e k) : bigSep s (slot m c (n + 1)) = bigSep s (slot m c n) :=
  bigSep_congr fun k hk => slot_succ m c hn (hq k hk)

omit [FloatOps F] in
theorem sigs_succ (h : ∀ p, e ≠ .sig p) : bigSep Finset.univ (sigAt (F := F) c (n + 1)) = bigSep Finset.univ (sigAt c n) :=
  bigSep_congr fun p _ => by unfold sigAt; simp only [hn.other (h p)]
omit [FloatOps F] in
theorem barAt_succ (h : e ≠ .bar) : barAt (F := F) c (n + 1) = barAt c n := by unfold barAt; simp only [hn.other h]
theorem xAt_succ (h : e ≠ .copyX) : xAt m c (n + 1) = xAt m c n := by unfold xAt; simp only [hn.other h]
theorem outAt_succ (h : ∀ jh, e ≠ .out jh) : outAt m c (n + 1) = outAt m c n := by
  unfold outAt outOk; simp only [fun jh => hn.other (h jh)]

theorem misc_succ (h1 : ∀ p, e ≠ .sig p) (h2 : e ≠ .bar) (h3 : e ≠ .copyX) (h4 : ∀ jh, e ≠ .out jh) : misc m c (n + 1) = misc m c n := by
  unfold misc; rw [sigs_succ c hn h1, barAt_succ c hn h2, xAt_succ m c hn h3, outAt_succ m c hn h4]

theorem owed_succ (h1 : ∀ p, e ≠ .sig p) (h2 : ∀ k, e ≠ .send k) : owed c (n + 1) = owed c n := by
  unfold owed oweMsg oweSig; simp only [fun p => hn.other (h1 p), fun k => hn.other (h2 k)]

theorem oweAt_succ (h1 : ∀ p, e ≠ .sig p) (h2 : ∀ k, e ≠ .send k) : oweAt (F := F) c (n + 1) = oweAt c n := by
  unfold oweAt; rw [owed_succ c hn h1 h2]

end

section

variable (c : Dev nD) {n : ℕ}

/-- Starting a message pays its debt. -/
theorem owed_send {k : Msg} (hn : Now (.send k) n) : owed c n = owed c (n + 1) + tallyAt (recvCell (peer (mk k) c) k) () (amt k) := by
  have h1 : ∀ k' ∈ Finset.univ.erase k, oweMsg c (n + 1) k' = oweMsg c n k' := fun k' hk' => by
    unfold oweMsg; simp only [hn.other (e' := .send k') (fun h => Finset.ne_of_mem_erase hk' (by cases h; rfl))]
  have h2 : ∀ p ∈ (Finset.univ : Finset (Fin 3)), oweSig c (n + 1) p = oweSig c n p := fun p _ => by
    unfold oweSig; simp only [hn.other (e' := .sig p) (by simp)]
  unfold owed
  rw [← Finset.add_sum_erase Finset.univ (oweMsg c n) (Finset.mem_univ k), ← Finset.add_sum_erase Finset.univ (oweMsg c (n + 1)) (Finset.mem_univ k),
    Finset.sum_congr rfl h1, Finset.sum_congr rfl h2,
    show oweMsg c (n + 1) k = 0 from if_pos hn.done, show oweMsg c n k = tallyAt (recvCell (peer (mk k) c) k) () (amt k) from if_neg hn.todo,
    zero_add, add_assoc, add_comm (tallyAt _ _ _)]

/-- Giving a signal pays its debt. -/
theorem owed_sig {p : Fin 3} (hn : Now (.sig p) n) : owed c n = owed c (n + 1) + tallyAt (barCell (peer p c)) () 1 := by
  have h1 : ∀ p' ∈ Finset.univ.erase p, oweSig c (n + 1) p' = oweSig c n p' := fun p' hk' => by
    unfold oweSig; simp only [hn.other (e' := .sig p') (fun h => Finset.ne_of_mem_erase hk' (by cases h; rfl))]
  have h2 : ∀ k ∈ (Finset.univ : Finset Msg), oweMsg c (n + 1) k = oweMsg c n k := fun k _ => by
    unfold oweMsg; simp only [hn.other (e' := .send k) (by simp)]
  unfold owed
  rw [← Finset.add_sum_erase Finset.univ (oweSig c n) (Finset.mem_univ p), ← Finset.add_sum_erase Finset.univ (oweSig c (n + 1)) (Finset.mem_univ p),
    Finset.sum_congr rfl h1, Finset.sum_congr rfl h2,
    show oweSig c (n + 1) p = 0 from if_pos hn.done, show oweSig c n p = tallyAt (barCell (peer p c)) () 1 from if_neg hn.todo,
    zero_add, add_assoc, add_comm (tallyAt _ _ _)]

end

end Cert.RS

end
-- ==== Proof.Steps.lean ====
/-
One event of a device's run at a time: from what the device holds before it, the operation runs on to the rest of the
program with what it holds after it.
-/
module

public import proofs.«01_k».proof.Proof.State

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD) {n : ℕ}

/-! ## Opening the state at one message -/

theorem St_at (k : Msg) :
    St m K c n = iprop(Rec m K ∗ (slot m c n k ∗ bigSep (Finset.univ.erase k) (slot m c n)) ∗ oweAt c n ∗ misc m c n) := by
  unfold St; rw [bigSep_univ_at (slot m c n) k]

/-- An event that concerns message `k` only, and no debt. -/
theorem St_next {e : Ev} (hn : Now e n) (k : Msg) (hq : ∀ k' ∈ Finset.univ.erase k, Quiet e k') (h1 : ∀ p, e ≠ .sig p) (h2 : ∀ k, e ≠ .send k)
    (h3 : e ≠ .bar) (h4 : e ≠ .copyX) (h5 : ∀ jh, e ≠ .out jh) :
    St m K c (n + 1) = iprop(Rec m K ∗ (slot m c (n + 1) k ∗ bigSep (Finset.univ.erase k) (slot m c n)) ∗ oweAt c n ∗ misc m c n) := by
  rw [St_at, slots_succ m c hn hq, oweAt_succ c hn h1 h2, misc_succ m c hn h1 h3 h4 h5]

/-! ## The signals -/

theorem slot_sig {p : Fin 3} (hn : Now (.sig p) n) (k : Msg) : slot m c n k ⊢ iprop(lent (peer p c) p k ∗ slot m c (n + 1) k) := by
  have hs := order_sig p
  have hk := order_send k
  unfold lent
  by_cases hp : mk k = p
  · subst hp
    rw [if_pos rfl, peer_peer]
    unfold slot
    rw [srcAt_succ m c hn (by simp) (by simp) (by simp), peerAt_succ c hn (by simp) (by simp), sendAt_succ c hn (by simp) (by simp),
      recvAt_succ c hn (by simp), tokAt_succ c hn (by simp)]
    rw [show dstAt m c n k = free c (land k) from if_pos hn.todo,
      show dstAt m c (n + 1) k = iprop(emp) from (if_neg (not_not.mpr hn.done)).trans (if_pos (by have := hn.1; omega))]
    iintro ⟨H1, H2, H3⟩
    isplitl [H2]; · iexact H2
    isplitl [H1]; · iexact H1
    isplitr; · iempintro
    iexact H3
  · rw [if_neg hp, slot_succ m c hn ⟨by simp, by simp, by simp, by simpa using fun h => hp h.symm, by simp, by simp, by simp, by simp⟩]
    iintro H
    isplitr; · iempintro
    iexact H

theorem slots_sig {p : Fin 3} (hn : Now (.sig p) n) :
    bigSep Finset.univ (slot m c n) ⊢ iprop(barPay (peer p c) p ∗ bigSep Finset.univ (slot m c (n + 1))) := by
  unfold barPay
  rw [← bigSep_sep']
  exact bigSep_mono fun k _ => slot_sig m c hn k

theorem step_sig (p : Fin 3) (hn : Now (.sig p) n) {d : Dev nD} (hd : d = peer p c) {a : ℤ} (ha : a = ((1 : ℕ) : ℤ)) {α : Type} {Q : α → sProp 𝕄}
    {k : PUnit → Prog (TpuEff nD τ sig (Elt F) Λ₀ .tc) α} (h : St m K c (n + 1) ⊢ run c (k ⟨⟩) Q) :
    St m K c n ⊢ run c (.op (.semSignal (d : Thread nD τ) barS a) k) Q := by
  subst hd; subst ha
  unfold St oweAt misc
  rw [bigSep_univ_at (sigAt (F := F) c n) p, owed_sig c hn,
    show sigAt (F := F) c n p = dutyTok ER (barCell (peer p c)) 0 p from if_neg hn.todo]
  iintro ⟨#HR, Hs, ⟨%W, Ho⟩, ⟨Ht, Hr⟩, HM⟩
  ihave Hs := (slots_sig m c hn) $$ Hs
  icases Hs with ⟨Hl, Hs⟩
  iapply (Rounds.wp_signal 𝒱₀ ER (rsRd m) (c : Thread nD τ) none (dst := (peer p c : Thread nD τ)) (κ := K (peer p c, none))
      (d := p) (r := 0) (by rw [duties_bar]; exact Finset.mem_univ _) (amount_bar m (peer p c) p) () (owed c (n + 1)) rfl)
    $$ [Ho Ht Hl]
  · isplitr; · iapply (inv_of m K (peer p c, none)) $$ HR
    isplitl [Ho]; · iexact Ho
    isplitl [Ht]; · iexact Ht
    isplitl [Hl]; · rw [payload_bar]; iexact Hl
    iapply (reached_of m K (peer p c, none)) $$ HR
  iintro Ho
  iapply h
  unfold St oweAt misc
  rw [barAt_succ c hn (by simp), xAt_succ m c hn (by simp), outAt_succ m c hn (by simp), bigSep_univ_at (sigAt (F := F) c (n + 1)) p,
    show sigAt (F := F) c (n + 1) p = iprop(emp) from if_pos hn.done,
    show bigSep (Finset.univ.erase p) (sigAt (F := F) c (n + 1)) = bigSep (Finset.univ.erase p) (sigAt c n) from
      bigSep_congr fun p' hp' => by unfold sigAt; simp only [hn.other (e' := .sig p') (fun h => Finset.ne_of_mem_erase hp' (by cases h; rfl))]]
  isplitr; · iexact HR
  isplitl [Hs]; · iexact Hs
  isplitl [Ho]; · iexists W; iexact Ho
  isplitl [Hr]
  · isplitr; · iempintro
    iexact Hr
  iexact HM

/-! ## The barrier -/

omit [FloatOps F] in
/-- What the three signals hand over: for every message the place it will land in. -/
theorem barPays : bigSep Finset.univ (barPay (F := F) c) ⊢ bigSep Finset.univ fun k => free (F := F) (peer (mk k) c) (land k) := by
  have e : ∀ Φ : Fin 3 → sProp 𝕄, bigSep Finset.univ Φ = iprop(Φ 0 ∗ Φ 1 ∗ Φ 2) := fun Φ => by
    rw [bigSep_univ_eq_bigSepL [0, 1, 2] (by decide) (by decide), bigSepL_cons_cons, bigSepL_cons_cons, bigSepL_singleton]; rfl
  unfold barPay
  rw [e, ← bigSep_sep', ← bigSep_sep']
  refine bigSep_mono fun k _ => ?_
  have hp : iprop(lent (F := F) c 0 k ∗ lent c 1 k ∗ lent c 2 k) ⊢ lent c (mk k) k := by
    rw [← e fun p => lent c p k]; exact pick (mk k)
  refine hp.trans (Entails.of_eq ?_)
  exact if_pos rfl

theorem slot_bar (hn : Now .bar n) (k : Msg) : iprop(free (peer (mk k) c) (land k) ∗ slot m c n k) ⊢ slot m c (n + 1) k := by
  have hk := order_send k
  have h1 := hn.1
  unfold slot
  rw [srcAt_succ m c hn (by simp) (by simp) (by simp), dstAt_succ m c hn (by simp) (by simp) (by simp) (by simp), sendAt_succ c hn (by simp) (by simp),
      recvAt_succ c hn (by simp), tokAt_succ c hn (by simp),
      show peerAt (F := F) c (n + 1) k = free (peer (mk k) c) (land k) from if_pos ⟨hn.done, by omega⟩]
  iintro ⟨Hf, H1, H2, -, H3⟩
  isplitl [H1]; · iexact H1
  isplitl [H2]; · iexact H2
  isplitl [Hf]; · iexact Hf
  iexact H3

theorem slots_bar (hn : Now .bar n) :
    iprop(bigSep Finset.univ (fun k => free (F := F) (peer (mk k) c) (land k)) ∗ bigSep Finset.univ (slot m c n))
      ⊢ bigSep Finset.univ (slot m c (n + 1)) := by
  rw [← bigSep_sep']
  exact bigSep_mono fun k _ => slot_bar m c hn k

theorem step_bar (hn : Now .bar n) {a : ℤ} (ha : a = ((3 : ℕ) : ℤ)) {α : Type} {Q : α → sProp 𝕄}
    {k : PUnit → Prog (TpuEff nD τ sig (Elt F) Λ₀ .tc) α} (h : St m K c (n + 1) ⊢ run c (k ⟨⟩) Q) :
    St m K c n ⊢ run c (.op (.semWait barS a) k) Q := by
  subst ha
  unfold St misc at h ⊢
  rw [sigs_succ c hn (by simp), xAt_succ m c hn (by simp), outAt_succ m c hn (by simp), oweAt_succ c hn (by simp) (by simp)] at h
  unfold oweAt at h ⊢
  rw [show barAt (F := F) c n = _ from if_neg hn.todo]
  rw [show barAt (F := F) c (n + 1) = _ from if_pos hn.done] at h
  iintro ⟨#HR, Hs, ⟨%W, Ho⟩, Hsig, ⟨Hat, Hcr⟩, HM⟩
  iapply (Rounds.wp_wait_rest_token 𝒱₀ ER (rsRd m) (c : Thread nD τ) none (κ := K (c, none))
      (wpE_semWait_eq 𝒱₀ (c : Thread nD τ) none Set.univ) (Set.mem_univ _) () (O := owed c n) (W := W) (R := 0) (m := 0) (T := ∅)
      (by rw [expect_bar])) $$ [Hcr Ho Hat]
  · isplitr; · iapply (inv_of m K (c, none)) $$ HR
    isplitl [Hcr]; · iexact Hcr
    isplitl [Ho]; · iexact Ho
    isplitr; · rw [← hn.1]; iapply (mayWait_bar c); iapply (lev_of m K) $$ HR
    iexact Hat
  iintro ⟨Ho, Hat, -, Hpay⟩
  ihave Hp := ((Entails.of_eq (rest_bar m c)).trans (barPays c)) $$ Hpay
  imod (Rounds.cell_close ER (rsRd m) (Set.mem_univ (K (c, none))) (fun h => h) (R := 0 + 1) (duties_later m (barCell c))) $$ [Hat] with Hz
  · isplitr; · iapply (inv_of m K (c, none)) $$ HR
    iexact Hat
  iapply h
  isplitr; · iexact HR
  isplitl [Hs Hp]
  · iapply (slots_bar m c hn)
    isplitl [Hp]; · iexact Hp
    iexact Hs
  isplitl [Ho]; · iexists _; iexact Ho
  isplitl [Hsig]; · iexact Hsig
  isplitl [Hz]; · iexact Hz
  iexact HM

end Cert.RS

end
-- ==== Proof.Messages.lean ====
/-
The events of one message: its contents stored, its start, its arrival, the addition of the device's own share, the
return of the place it left from; and the loads of the places.
-/
module

public import proofs.«01_k».proof.Proof.Steps

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD) {n : ℕ}

/-! ## Which events concern which messages -/

theorem quiet_rw (k : Msg) : ∀ k' ∈ Finset.univ.erase k, Quiet (.rw k) k' := fun k' h => by
  have := (Finset.ne_of_mem_erase h).symm
  exact ⟨by simp, by simp, by simp, by simp, by simpa using this, by simp, by simp, by simp⟩
theorem quiet_sw (k : Msg) : ∀ k' ∈ Finset.univ.erase k, Quiet (.sw k) k' := fun k' h => by
  have := (Finset.ne_of_mem_erase h).symm
  exact ⟨by simpa using this, by simp, by simp, by simp, by simp, by simp, by simp, by simp⟩
theorem quiet_st (k : Msg) : ∀ k' ∈ Finset.univ.erase k, Quiet (.st k) k' := fun k' h => by
  have := (Finset.ne_of_mem_erase h).symm
  exact ⟨by simp, by simp, by simpa using this, by simp, by simp, by simp, by simp, by simp⟩
theorem quiet_acc (k : Msg) : ∀ k' ∈ Finset.univ.erase k, Quiet (.acc k) k' := fun k' h => by
  have := (Finset.ne_of_mem_erase h).symm
  exact ⟨by simp, by simp, by simp, by simp, by simp, by simpa using this, by simp, by simp⟩
theorem quiet_send {k k' : Msg} (h : k ≠ k') (h' : 4 ≤ k.2.2.val → src0 k ≠ k') : Quiet (.send k) k' :=
  ⟨by simp, by simpa using h, by simp, by simp, by simp, by simp, by simp, fun k'' hk => by cases hk; exact h'⟩

/-! ## The first exchange's contents stored -/

/-- The messages of the first exchange. -/
abbrev o0 (i : Fin 4) : Fin 7 := i.castLE (by decide)
/-- The messages of the second exchange. -/
abbrev o1 (i : Fin 2) : Fin 7 := ⟨4 + i.val, by omega⟩

theorem from_first (j h : Fin 3) (i : Fin 4) : from_ (j, h, o0 i) = view4 (s0B j) j h i := by fin_cases i <;> rfl
theorem land_first (j h : Fin 3) (i : Fin 4) : land (j, h, o0 i) = view4 (r0B j) j h i := by fin_cases i <;> rfl
theorem land_second (j h : Fin 3) (i : Fin 2) : land (j, h, o1 i) = view2 (r1B j) j h i := by fin_cases i <;> rfl
theorem land_third (j h : Fin 3) : land (j, h, 6) = view1 (r2B j) j h := rfl

theorem slot_load_st {k : Msg} (hk : t (.send k) < t (.sw k)) (h1 : ¬ (t (.send k) < n ∨ 4 ≤ k.2.2.val)) (h2 : ¬ t (.st k) < n) :
    slot m c n k ⊢ iprop(free c (from_ k) ∗ (free c (from_ k) -∗ slot m c n k)) := by
  unfold slot
  rw [show srcAt m c n k = free c (from_ k) from (if_neg (fun h => h1 (.inl (hk.trans h)))).trans ((if_neg h1).trans (if_neg h2))]
  iintro ⟨H, HR⟩
  isplitl [H]; · iexact H
  iintro H
  isplitl [H]; · iexact H
  iexact HR

theorem slot_st {k : Msg} (hn : Now (.st k) n) (h1 : ¬ (t (.send k) < n ∨ 4 ≤ k.2.2.val)) (h1' : t (.st k) < t (.send k)) :
    slot m c n k ⊢ iprop(free c (from_ k) ∗ (holds c (from_ k) (msg m k c) -∗ slot m c (n + 1) k)) := by
  have hk := order_send k
  have h0 := hn.1
  unfold slot
  rw [dstAt_succ m c hn (by simp) (by simp) (by simp) (by simp), peerAt_succ c hn (by simp) (by simp), sendAt_succ c hn (by simp) (by simp),
    recvAt_succ c hn (by simp), tokAt_succ c hn (by simp)]
  rw [show srcAt m c n k = free c (from_ k) from (if_neg (by omega)).trans ((if_neg h1).trans (if_neg hn.todo)),
    show srcAt m c (n + 1) k = holds c (from_ k) (msg m k c) from (if_neg (by omega)).trans ((if_neg (by omega)).trans (if_pos hn.done))]
  iintro ⟨H, HR⟩
  isplitl [H]; · iexact H
  iintro H
  isplitl [H]; · iexact H
  iexact HR

/-- The load before a store of a first message's contents, its value not used. -/
theorem load_s0 (j h : Fin 3) (i : Fin 4) (h1 : ¬ t (.send (j, h, o0 i)) < n ∧ ¬ t (.st (j, h, o0 i)) < n) {α : Type} {Q : α → sProp 𝕄}
    {hl : (s0B j).view.LoadsAt (rect4 j h i).toLoadRect} {k : ((rect4 j h i).toLoadRect.shape.Idx → Elt F .bf16) → Prog (TpuEff nD τ sig (Elt F) Λ₀ .tc) α}
    (H : ∀ v, St m K c n ⊢ run c (k v) Q) : St m K c n ⊢ run c (.op (.load (s0B j) (rect4 j h i).toLoadRect hl) k) Q := by
  have hk := order_send (j, h, o0 i)
  have e : slot m c n (j, h, o0 i) ⊢ iprop(free c (place (s0B j) (rect4 j h i) (fun _ => rfl) (sq4 j h))
      ∗ (free c (place (s0B j) (rect4 j h i) (fun _ => rfl) (sq4 j h)) -∗ slot m c n (j, h, o0 i))) := by
    have := slot_load_st m c (n := n) (k := (j, h, o0 i)) hk.2.2.2.1 (fun h => h.elim h1.1 (fun h => absurd i.isLt (Nat.not_lt.mpr h))) h1.2
    rw [from_first] at this; exact this
  rw [St_at m K c (j, h, o0 i)] at H ⊢
  iintro ⟨#HR, ⟨Hs, Hs'⟩, HO⟩
  ihave Hs := e $$ Hs
  icases Hs with ⟨Hf, Hs⟩
  iapply (load_free (s0B j) (rect4 j h i) (fun _ => rfl) (sq4 j h)) $$ Hf
  iintro %v Hf
  iapply (H v)
  isplitr; · iexact HR
  isplitr [HO]
  · isplitr [Hs']
    · iapply Hs $$ Hf
    iexact Hs'
  iexact HO

/-- The store of a first message's contents. -/
theorem step_st (j h : Fin 3) (i : Fin 4) (hn : Now (.st (j, h, o0 i)) n) {α : Type} {Q : α → sProp 𝕄} {w : (rect4 j h i).shape.Idx → Elt F .bf16}
    (hw : w = shapeCast (Strip4 j h) (first m j h i c) (cast4' j h))
    {hx : ((s0B j).access (rect4 j h i)).Stores Finset.univ} {hm : (Finset.univ : Finset (rect4 j h i).shape.Idx) = Finset.univ ∨ ∀ a, (rect4 j h i).stride a = 1}
    {k : PUnit → Prog (TpuEff nD τ sig (Elt F) Λ₀ .tc) α}
    (H : St m K c (n + 1) ⊢ run c (k ⟨⟩) Q) : St m K c n ⊢ run c (.op (.store (s0B j) (rect4 j h i) w Finset.univ hx hm) k) Q := by
  have hk := order_send (j, h, o0 i)
  have ho : t (.st (j, h, o0 i)) < t (.send (j, h, o0 i)) := order_st j h i
  have h0 := hn.1
  have hmsg : msg m (j, h, o0 i) c = first m j h i c := by fin_cases i <;> rfl
  have e : slot m c n (j, h, o0 i) ⊢ iprop(free c (place (s0B j) (rect4 j h i) (fun _ => rfl) (sq4 j h))
      ∗ (holds c (place (s0B j) (rect4 j h i) (fun _ => rfl) (sq4 j h)) (first m j h i c) -∗ slot m c (n + 1) (j, h, o0 i))) := by
    have := slot_st m c hn (fun h => h.elim (by omega) (fun h => absurd i.isLt (Nat.not_lt.mpr h))) ho
    rw [from_first, hmsg] at this; exact this
  rw [St_next m K c hn (j, h, o0 i) (quiet_st _) (by simp) (by simp) (by simp) (by simp) (by simp)] at H
  rw [St_at m K c (j, h, o0 i)]
  iintro ⟨#HR, ⟨Hs, Hs'⟩, HO⟩
  ihave Hs := e $$ Hs
  icases Hs with ⟨Hf, Hs⟩
  iapply (store_free (s0B j) (rect4 j h i) (fun _ => rfl) (sq4 j h) (cast4 j h) (cast4' j h) (first m j h i c) hw) $$ Hf
  iintro Hf
  iapply H
  isplitr; · iexact HR
  isplitr [HO]
  · isplitr [Hs']
    · iapply Hs $$ Hf
    iexact Hs'
  iexact HO

/-! ## Arrivals, and the return of a place -/

theorem slot_rw {k : Msg} (hn : Now (.rw k) n) :
    slot m c n k ⊢ iprop((atPos ER (recvCell c k) 0 ∅ 0 ∗ cred (tallyAt (recvCell c k) () (amt k)))
      ∗ (semVal (recvCell c k) 0 -∗ holds c (land k) (got m k c) -∗ slot m c (n + 1) k)) := by
  have hk := order_send k
  have hs := order_sig (mk k)
  have hr := order_rw k
  have h0 := hn.1
  unfold slot
  rw [srcAt_succ m c hn (by simp) (by simp) (by simp), peerAt_succ c hn (by simp) (by simp), sendAt_succ c hn (by simp) (by simp), tokAt_succ c hn (by simp)]
  rw [show dstAt m c n k = iprop(emp) from (if_neg (by omega)).trans (if_pos hn.todo),
    show dstAt m c (n + 1) k = holds c (land k) (got m k c) from (if_neg (by omega)).trans ((if_neg (by omega)).trans (if_pos (by omega))),
    show recvAt (F := F) c n k = _ from if_neg hn.todo, show recvAt (F := F) c (n + 1) k = _ from if_pos hn.done]
  iintro ⟨H1, -, H3, H4, H5, H6⟩
  isplitl [H5]; · iexact H5
  iintro Hz Hh
  isplitl [H1]; · iexact H1
  isplitl [Hh]; · iexact Hh
  isplitl [H3]; · iexact H3
  isplitl [H4]; · iexact H4
  isplitl [Hz]; · iexact Hz
  iexact H6

theorem step_rw (k₀ : Msg) (hn : Now (.rw k₀) n) {sp sp' : Space} {s s' : Shape} {e e' : EltTy} {src : Memref sig .tc sp' s' e'} {dst : Memref sig .tc sp s e}
    (hc : dst.view.dmaCredit = amt k₀) {hsrc : src.view.WordExact} {hdst : dst.view.WordExact} {α : Type} {Q : α → sProp 𝕄}
    {k : PUnit → Prog (TpuEff nD τ sig (Elt F) Λ₀ .tc) α} (H : St m K c (n + 1) ⊢ run c (k ⟨⟩) Q) :
    St m K c n ⊢ run c (.op (.waitDma2 (recvS k₀) src dst hsrc hdst) k) Q := by
  rw [St_next m K c hn k₀ (quiet_rw _) (by simp) (by simp) (by simp) (by simp) (by simp)] at H
  rw [St_at m K c k₀]
  unfold oweAt at H ⊢
  iintro ⟨#HR, ⟨Hs, Hs'⟩, ⟨%W, Ho⟩, HM⟩
  ihave Hs := (slot_rw m c hn) $$ Hs
  icases Hs with ⟨⟨Hat, Hcr⟩, Hs⟩
  iapply (Rounds.wp_wait_rest_token 𝒱₀ ER (rsRd m) (c : Thread nD τ) none (κ := K (c, some (true, k₀)))
      (wpE_waitDma2_eq 𝒱₀ (c : Thread nD τ) none Set.univ) (Set.mem_univ _) () (O := owed c n) (W := W) (R := 0) (m := 0) (T := ∅)
      (by rw [expect_recv, Nat.zero_add, hc])) $$ [Hcr Ho Hat]
  · isplitr; · iapply (inv_of m K (c, some (true, k₀))) $$ HR
    isplitl [Hcr]; · rw [hc]; iexact Hcr
    isplitl [Ho]; · iexact Ho
    isplitr; · rw [← hn.1]; iapply (mayWait_recv c k₀); iapply (lev_of m K) $$ HR
    iexact Hat
  iintro ⟨Ho, Hat, -, Hpay⟩
  ihave Hp := (Entails.of_eq (rest_recv m c k₀)) $$ Hpay
  imod (Rounds.cell_close ER (rsRd m) (Set.mem_univ (K (c, some (true, k₀)))) (fun h => h) (R := 0 + 1) (duties_later m (recvCell c k₀))) $$ [Hat] with Hz
  · isplitr; · iapply (inv_of m K (c, some (true, k₀))) $$ HR
    iexact Hat
  iapply H
  isplitr; · iexact HR
  isplitl [Hs Hs' Hp Hz]
  · isplitr [Hs']
    · unfold recvPay
      iapply Hs $$ Hz Hp
    iexact Hs'
  isplitl [Ho]; · iexists _; iexact Ho
  iexact HM

theorem slot_sw {k : Msg} (hn : Now (.sw k) n) :
    slot m c n k ⊢ iprop((atPos ER (sendCell c k) 0 ∅ 0 ∗ cred (tallyAt (sendCell c k) () (amt k)))
      ∗ (semVal (sendCell c k) 0 -∗ holds c (from_ k) (msg m k c) -∗ slot m c (n + 1) k)) := by
  have hk := order_send k
  have h0 := hn.1
  unfold slot
  rw [dstAt_succ m c hn (by simp) (by simp) (by simp) (by simp), peerAt_succ c hn (by simp) (by simp), recvAt_succ c hn (by simp), tokAt_succ c hn (by simp)]
  rw [show srcAt m c n k = iprop(emp) from (if_neg hn.todo).trans (if_pos (Or.inl (by omega))),
    show srcAt m c (n + 1) k = holds c (from_ k) (msg m k c) from if_pos hn.done,
    show sendAt (F := F) c (n + 1) k = _ from if_pos hn.done]
  unfold sendAt
  rw [if_neg hn.todo, if_pos (show t (.send k) < n by omega)]
  iintro ⟨-, H2, H3, H4, H5, H6⟩
  isplitl [H4]; · iexact H4
  iintro Hz Hh
  isplitl [Hh]; · iexact Hh
  isplitl [H2]; · iexact H2
  isplitl [H3]; · iexact H3
  isplitl [Hz]; · iexact Hz
  isplitl [H5]; · iexact H5
  iexact H6

theorem step_sw (k₀ : Msg) (hn : Now (.sw k₀) n) {sp sp' : Space} {s s' : Shape} {e e' : EltTy} {src : Memref sig .tc sp' s' e'} {dst : Memref sig .tc sp s e}
    (hc : dst.view.dmaCredit = amt k₀) {hsrc : src.view.WordExact} {hdst : dst.view.WordExact} {α : Type} {Q : α → sProp 𝕄}
    {k : PUnit → Prog (TpuEff nD τ sig (Elt F) Λ₀ .tc) α} (H : St m K c (n + 1) ⊢ run c (k ⟨⟩) Q) :
    St m K c n ⊢ run c (.op (.waitDma2 (sendS k₀) src dst hsrc hdst) k) Q := by
  rw [St_next m K c hn k₀ (quiet_sw _) (by simp) (by simp) (by simp) (by simp) (by simp)] at H
  rw [St_at m K c k₀]
  unfold oweAt at H ⊢
  iintro ⟨#HR, ⟨Hs, Hs'⟩, ⟨%W, Ho⟩, HM⟩
  ihave Hs := (slot_sw m c hn) $$ Hs
  icases Hs with ⟨⟨Hat, Hcr⟩, Hs⟩
  iapply (Rounds.wp_wait_rest_token 𝒱₀ ER (rsRd m) (c : Thread nD τ) none (κ := K (c, some (false, k₀)))
      (wpE_waitDma2_eq 𝒱₀ (c : Thread nD τ) none Set.univ) (Set.mem_univ _) () (O := owed c n) (W := W) (R := 0) (m := 0) (T := ∅)
      (by rw [expect_send, Nat.zero_add, hc])) $$ [Hcr Ho Hat]
  · isplitr; · iapply (inv_of m K (c, some (false, k₀))) $$ HR
    isplitl [Hcr]; · rw [hc]; iexact Hcr
    isplitl [Ho]; · iexact Ho
    isplitr; · iapply (mayWait_low c (sendS k₀) (send_lt k₀) n); iapply (lev_of m K) $$ HR
    iexact Hat
  iintro ⟨Ho, Hat, -, Hpay⟩
  ihave Hp := (Entails.of_eq (rest_send m c k₀)) $$ Hpay
  imod (Rounds.cell_close ER (rsRd m) (Set.mem_univ (K (c, some (false, k₀)))) (fun h => h) (R := 0 + 1) (duties_later m (sendCell c k₀))) $$ [Hat] with Hz
  · isplitr; · iapply (inv_of m K (c, some (false, k₀))) $$ HR
    iexact Hat
  iapply H
  isplitr; · iexact HR
  isplitl [Hs Hs' Hp Hz]
  · isplitr [Hs']
    · unfold sendPay
      iapply Hs $$ Hz Hp
    iexact Hs'
  isplitl [Ho]; · iexists _; iexact Ho
  iexact HM

/-! ## Loads of what has arrived -/

theorem slot_got {k : Msg} (h : t (.rw k) < n ∧ ¬ t (.acc k) < n) :
    slot m c n k ⊢ iprop(holds c (land k) (got m k c) ∗ (holds c (land k) (got m k c) -∗ slot m c n k)) := by
  have hk := order_send k
  have hs := order_sig (mk k)
  unfold slot
  rw [show dstAt m c n k = holds c (land k) (got m k c) from (if_neg (by omega)).trans ((if_neg (not_not.mpr h.1)).trans (if_pos h.2))]
  iintro ⟨H1, H2, H3⟩
  isplitl [H2]; · iexact H2
  iintro H2
  isplitl [H1]; · iexact H1
  isplitl [H2]; · iexact H2
  iexact H3

theorem slot_both {k : Msg} (h : t (.acc k) < n ∧ ¬ fwd k < n) :
    slot m c n k ⊢ iprop(holds c (land k) (both m k c) ∗ (holds c (land k) (both m k c) -∗ slot m c n k)) := by
  have hk := order_send k
  have hs := order_sig (mk k)
  have hr := order_rw k
  unfold slot
  rw [show dstAt m c n k = holds c (land k) (both m k c) from
    (if_neg (by omega)).trans ((if_neg (by omega)).trans ((if_neg (not_not.mpr h.1)).trans (if_neg h.2)))]
  iintro ⟨H1, H2, H3⟩
  isplitl [H2]; · iexact H2
  iintro H2
  isplitl [H1]; · iexact H1
  isplitl [H2]; · iexact H2
  iexact H3

/-- The load of a place known to hold a strip. -/
theorem load_place (k₀ : Msg) {j h : Fin 3} {X : SV F j h .bf16} {s : Shape} {B : Memref sig .tc .vmem s .bf16} {r : Rect s} (hr : ∀ a, r.stride a = 1)
    (hq : r.shape.Squeezes (Strip j h)) (hc : r.shape.ShapeCasts (Strip j h)) (hc' : (Strip j h).ShapeCasts r.shape)
    (e : slot m c n k₀ ⊢ iprop(holds c (place B r hr hq) X ∗ (holds c (place B r hr hq) X -∗ slot m c n k₀)))
    {α : Type} {Q : α → sProp 𝕄} {hl : B.view.LoadsAt r.toLoadRect} {k : (r.toLoadRect.shape.Idx → Elt F .bf16) → Prog (TpuEff nD τ sig (Elt F) Λ₀ .tc) α}
    (H : St m K c n ⊢ run c (k (shapeCast r.shape X hc')) Q) : St m K c n ⊢ run c (.op (.load B r.toLoadRect hl) k) Q := by
  rw [St_at m K c k₀] at H ⊢
  iintro ⟨#HR, ⟨Hs, Hs'⟩, HO⟩
  ihave Hs := e $$ Hs
  icases Hs with ⟨Hf, Hs⟩
  iapply (load_held B r hr hq hc hc' X) $$ Hf
  iintro Hf
  iapply H
  isplitr; · iexact HR
  isplitr [HO]
  · isplitr [Hs']
    · iapply Hs $$ Hf
    iexact Hs'
  iexact HO

section Loads

variable (j h : Fin 3) {α : Type}

/-- The load of an arrived message of the first exchange. -/
theorem load_got0 (i : Fin 4) {Q : α → sProp 𝕄} (h1 : t (.rw (j, h, o0 i)) < n ∧ ¬ t (.acc (j, h, o0 i)) < n)
    {hl : (r0B j).view.LoadsAt (rect4 j h i).toLoadRect} {k : ((rect4 j h i).toLoadRect.shape.Idx → Elt F .bf16) → Prog (TpuEff nD τ sig (Elt F) Λ₀ .tc) α}
    (H : St m K c n ⊢ run c (k (shapeCast (Strip4 j h) (got m (j, h, o0 i) c) (cast4' j h))) Q) :
    St m K c n ⊢ run c (.op (.load (r0B j) (rect4 j h i).toLoadRect hl) k) Q :=
  load_place m K c (j, h, o0 i) (fun _ => rfl) (sq4 j h) (cast4 j h) (cast4' j h) (by have := slot_got m c h1; rw [land_first] at this; exact this) H

/-- The load of a sum of the first exchange. -/
theorem load_both0 (i : Fin 4) {Q : α → sProp 𝕄} (h1 : t (.acc (j, h, o0 i)) < n ∧ ¬ fwd (j, h, o0 i) < n)
    {hl : (r0B j).view.LoadsAt (rect4 j h i).toLoadRect} {k : ((rect4 j h i).toLoadRect.shape.Idx → Elt F .bf16) → Prog (TpuEff nD τ sig (Elt F) Λ₀ .tc) α}
    (H : St m K c n ⊢ run c (k (shapeCast (Strip4 j h) (both m (j, h, o0 i) c) (cast4' j h))) Q) :
    St m K c n ⊢ run c (.op (.load (r0B j) (rect4 j h i).toLoadRect hl) k) Q :=
  load_place m K c (j, h, o0 i) (fun _ => rfl) (sq4 j h) (cast4 j h) (cast4' j h) (by have := slot_both m c h1; rw [land_first] at this; exact this) H

/-- The load of an arrived message of the second exchange. -/
theorem load_got1 (i : Fin 2) {Q : α → sProp 𝕄} (h1 : t (.rw (j, h, o1 i)) < n ∧ ¬ t (.acc (j, h, o1 i)) < n)
    {hl : (r1B j).view.LoadsAt (rect2 j h i).toLoadRect} {k : ((rect2 j h i).toLoadRect.shape.Idx → Elt F .bf16) → Prog (TpuEff nD τ sig (Elt F) Λ₀ .tc) α}
    (H : St m K c n ⊢ run c (k (shapeCast (Strip4 j h) (got m (j, h, o1 i) c) (cast4' j h))) Q) :
    St m K c n ⊢ run c (.op (.load (r1B j) (rect2 j h i).toLoadRect hl) k) Q :=
  load_place m K c (j, h, o1 i) (fun _ => rfl) (sq4 j h) (cast4 j h) (cast4' j h) (by have := slot_got m c h1; rw [land_second] at this; exact this) H

theorem cast3' (j h : Fin 3) : (Strip j h).ShapeCasts (Strip3 j h) := by revert j h; decide +kernel

/-- The load of an arrived message of the third exchange. -/
theorem load_got2 {Q : α → sProp 𝕄} (h1 : t (.rw (j, h, 6)) < n ∧ ¬ t (.acc (j, h, 6)) < n)
    {hl : (r2B j).view.LoadsAt (rect1 j h).toLoadRect} {k : ((rect1 j h).toLoadRect.shape.Idx → Elt F .bf16) → Prog (TpuEff nD τ sig (Elt F) Λ₀ .tc) α}
    (H : St m K c n ⊢ run c (k (shapeCast (Strip3 j h) (got m (j, h, 6) c) (cast3' j h))) Q) :
    St m K c n ⊢ run c (.op (.load (r2B j) (rect1 j h).toLoadRect hl) k) Q :=
  load_place m K c (j, h, 6) (fun _ => rfl) (sq3 j h) (cast3 j h) (cast3' j h) (slot_got m c h1) H

end Loads

/-! ## The additions -/

theorem slot_acc {k : Msg} (hn : Now (.acc k) n) :
    slot m c n k ⊢ iprop(free c (land k) ∗ (holds c (land k) (both m k c) -∗ slot m c (n + 1) k)) := by
  have hk := order_send k
  have hs := order_sig (mk k)
  have hr := order_rw k
  have h0 := hn.1
  unfold slot
  rw [srcAt_succ m c hn (by simp) (by simp) (by simp), peerAt_succ c hn (by simp) (by simp), sendAt_succ c hn (by simp) (by simp),
    recvAt_succ c hn (by simp), tokAt_succ c hn (by simp)]
  rw [show dstAt m c n k = holds c (land k) (got m k c) from (if_neg (by omega)).trans ((if_neg (by omega)).trans (if_pos hn.todo)),
    show dstAt m c (n + 1) k = holds c (land k) (both m k c) from
      (if_neg (by omega)).trans ((if_neg (by omega)).trans ((if_neg (not_not.mpr hn.done)).trans (if_neg (by omega))))]
  iintro ⟨H1, H2, H3⟩
  isplitl [H2]; · iapply (holds_free (land k) (got m k c)) $$ H2
  iintro H2
  isplitl [H1]; · iexact H1
  isplitl [H2]; · iexact H2
  iexact H3

theorem store_place (k₀ : Msg) (hn : Now (.acc k₀) n) {j h : Fin 3} {X : SV F j h .bf16} {s : Shape} {B : Memref sig .tc .vmem s .bf16} {r : Rect s}
    (hr : ∀ a, r.stride a = 1) (hq : r.shape.Squeezes (Strip j h)) (hc : r.shape.ShapeCasts (Strip j h)) (hc' : (Strip j h).ShapeCasts r.shape)
    (e : slot m c n k₀ ⊢ iprop(free c (place B r hr hq) ∗ (holds c (place B r hr hq) X -∗ slot m c (n + 1) k₀)))
    {α : Type} {Q : α → sProp 𝕄} {w : r.shape.Idx → Elt F .bf16} (hw : w = shapeCast r.shape X hc')
    {hx : (B.access r).Stores Finset.univ} {hm : (Finset.univ : Finset r.shape.Idx) = Finset.univ ∨ ∀ a, r.stride a = 1}
    {k : PUnit → Prog (TpuEff nD τ sig (Elt F) Λ₀ .tc) α}
    (H : St m K c (n + 1) ⊢ run c (k ⟨⟩) Q) : St m K c n ⊢ run c (.op (.store B r w Finset.univ hx hm) k) Q := by
  rw [St_next m K c hn k₀ (quiet_acc _) (by simp) (by simp) (by simp) (by simp) (by simp)] at H
  rw [St_at m K c k₀]
  iintro ⟨#HR, ⟨Hs, Hs'⟩, HO⟩
  ihave Hs := e $$ Hs
  icases Hs with ⟨Hf, Hs⟩
  iapply (store_free B r hr hq hc hc' X hw) $$ Hf
  iintro Hf
  iapply H
  isplitr; · iexact HR
  isplitr [HO]
  · isplitr [Hs']
    · iapply Hs $$ Hf
    iexact Hs'
  iexact HO

section Adds

variable (j h : Fin 3) {α : Type} {k : PUnit → Prog (TpuEff nD τ sig (Elt F) Λ₀ .tc) α}

/-- The addition to an arrived message of the first exchange. -/
theorem step_acc0 (i : Fin 4) {Q : α → sProp 𝕄} (hn : Now (.acc (j, h, o0 i)) n) {w : (rect4 j h i).shape.Idx → Elt F .bf16}
    (hw : w = shapeCast (Strip4 j h) (addf (mine m (j, h, o0 i) c) (shapeCast (Strip j h) (shapeCast (Strip4 j h) (got m (j, h, o0 i) c) (cast4' j h)) (cast4 j h))) (cast4' j h))
    {hx : ((r0B j).access (rect4 j h i)).Stores Finset.univ} {hm : (Finset.univ : Finset (rect4 j h i).shape.Idx) = Finset.univ ∨ ∀ a, (rect4 j h i).stride a = 1}
    (H : St m K c (n + 1) ⊢ run c (k ⟨⟩) Q) : St m K c n ⊢ run c (.op (.store (r0B j) (rect4 j h i) w Finset.univ hx hm) k) Q :=
  store_place m K c (j, h, o0 i) hn (fun _ => rfl) (sq4 j h) (cast4 j h) (cast4' j h) (by have := slot_acc m c hn; rw [land_first] at this; exact this)
    (by rw [hw, shapeCast_shapeCast]; rfl) H

/-- The addition to the arrived message of the second exchange that is passed on. -/
theorem step_acc1 {Q : α → sProp 𝕄} (hn : Now (.acc (j, h, 5)) n) {w : (rect2 j h 1).shape.Idx → Elt F .bf16}
    (hw : w = shapeCast (Strip4 j h) (addf (shapeCast (Strip j h) (shapeCast (Strip4 j h) (both m (j, h, 2) c) (cast4' j h)) (cast4 j h))
      (shapeCast (Strip j h) (shapeCast (Strip4 j h) (got m (j, h, 5) c) (cast4' j h)) (cast4 j h))) (cast4' j h))
    {hx : ((r1B j).access (rect2 j h 1)).Stores Finset.univ} {hm : (Finset.univ : Finset (rect2 j h 1).shape.Idx) = Finset.univ ∨ ∀ a, (rect2 j h 1).stride a = 1}
    (H : St m K c (n + 1) ⊢ run c (k ⟨⟩) Q) : St m K c n ⊢ run c (.op (.store (r1B j) (rect2 j h 1) w Finset.univ hx hm) k) Q :=
  store_place m K c (j, h, 5) hn (fun _ => rfl) (sq4 j h) (cast4 j h) (cast4' j h) (slot_acc m c hn)
    (by rw [hw, shapeCast_shapeCast, shapeCast_shapeCast]; rfl) H

end Adds

/-! ## Starting a message -/

/-- What is copied into a place is what the place then holds. -/
theorem read_sent {sp : Space} {s : Shape} {e : EltTy} (V : Memref sig .tc sp s e) (fd : V.view.ty.Contents (Elt F)) {X Y : s.Idx → Elt F e} (h : X = Y) :
    V.view.read (Elt F) (V.view.write (Elt F) fd X Finset.univ) = Y := (View.read_write_univ fd X).trans h

theorem send_core {k₀ : Msg} (hn : Now (.send k₀) n) {d : Dev nD} (hd : d = peer (mk k₀) c) {α : Type} {Q : α → sProp 𝕄}
    {k : PUnit → Prog (TpuEff nD τ sig (Elt F) Λ₀ .tc) α} {hsc : (land k₀ : Memref sig (Dev.tc d : Thread nD τ).2.kind .vmem (Strip k₀.1 k₀.2.1) .bf16).view.ref.isScScratch = false}
    {hsrc : (from_ k₀).view.WordExact} {hdst : (land k₀).view.WordExact}
    {hsem : DmaTarget.Typed .vmem (.dma (recvS k₀)) (.remote (Dev.tc d : Thread nD τ) (land k₀ : Memref sig (Dev.tc d : Thread nD τ).2.kind .vmem (Strip k₀.1 k₀.2.1) .bf16) (.dma (sendS k₀)) hsc)} :
    iprop(Rec m K ∗ holds c (from_ k₀) (msg m k₀ c) ∗ free (peer (mk k₀) c) (land k₀) ∗ oweAt c n
        ∗ dutyTok ER (sendCell c k₀) 0 (0 : Fin 3) ∗ dutyTok ER (recvCell (peer (mk k₀) c) k₀) 0 (0 : Fin 3))
      ⊢ iprop(((cred (tallyAt (sendCell c k₀) () (amt k₀)) ∗ oweAt c (n + 1)) -∗ run c (k ⟨⟩) Q)
        -∗ run c (.op (.enqueueDma (from_ k₀) (.remote (Dev.tc d : Thread nD τ) (land k₀) (.dma (sendS k₀)) hsc) (.dma (recvS k₀)) hsrc hdst hsem) k) Q) := by
  subst hd
  unfold holds owns free oweAt
  iintro ⟨#HR, ⟨%fs, %hfs, Hs⟩, ⟨%fd, Hd⟩, ⟨%W, Ho⟩, Ht1, Ht2⟩ Hk
  iapply (Rounds.wp_send_pointsTo 𝒱₀ ER (rsRd m) (c : Thread nD τ) none (κ₁ := K (c, some (false, k₀))) (κ₂ := K (peer (mk k₀) c, some (true, k₀)))
    (r₁ := 0) (r₂ := 0) (d₁ := 0) (d₂ := 0) (fs := fs) (fd := fd)
    (by rw [duties_send]; exact Finset.mem_singleton_self _) (by rw [duties_recv]; exact Finset.mem_singleton_self _)
    () () (amt k₀) rfl (amount_send m c k₀ 0) (amount_recv m (peer (mk k₀) c) k₀ 0) (owed c (n + 1)) (owed_send c hn) (W := W)
    (by
      rw [payload_send]; unfold sendPay holds owns
      iintro H
      iexists fs
      isplitr; · ipureintro; exact hfs
      iexact H)
    (by
      rw [payload_recv]; unfold recvPay holds owns got
      rw [peer_peer]
      iintro H
      iexists ((land k₀).view.write (Elt F) fd ((from_ k₀).view.read (Elt F) fs) Finset.univ)
      isplitr
      · ipureintro; exact read_sent (land k₀) fd hfs
      iexact H)) $$ [Hs Hd Ho Ht1 Ht2]
  · isplitr; · iapply (inv_of m K (c, some (false, k₀))) $$ HR
    isplitr; · iapply (inv_of m K (peer (mk k₀) c, some (true, k₀))) $$ HR
    isplitl [Hs]; · iexact Hs
    isplitl [Hd]; · iexact Hd
    isplitl [Ho]; · iexact Ho
    isplitl [Ht1]; · iexact Ht1
    isplitr; · iapply (reached_of m K (c, some (false, k₀))) $$ HR
    isplitl [Ht2]; · iexact Ht2
    iapply (reached_of m K (peer (mk k₀) c, some (true, k₀))) $$ HR
  iintro ⟨Hc, Ho⟩
  iapply Hk
  isplitl [Hc]; · iexact Hc
  iexists W; iexact Ho

/-- What starting message `k` takes from its own slot, its contents aside, and what it leaves there. -/
theorem slot_send {k : Msg} (hn : Now (.send k) n) :
    iprop(dstAt m c n k ∗ peerAt c n k ∗ sendAt c n k ∗ recvAt c n k ∗ tokAt c n k)
      ⊢ iprop((free (peer (mk k) c) (land k) ∗ dutyTok ER (sendCell c k) 0 (0 : Fin 3) ∗ dutyTok ER (recvCell (peer (mk k) c) k) 0 (0 : Fin 3))
      ∗ (cred (tallyAt (sendCell c k) () (amt k)) -∗ slot m c (n + 1) k)) := by
  have hk := order_send k
  have h0 := hn.1
  unfold slot
  rw [dstAt_succ m c hn (by simp) (by simp) (by simp) (by
      intro k' h1 h2 h3; cases h1
      obtain ⟨j, h, o⟩ := k
      fin_cases o <;> simp [src0] at h2 h3), recvAt_succ c hn (by simp)]
  unfold peerAt sendAt tokAt
  rw [show srcAt m c (n + 1) k = iprop(emp) from (if_neg (by omega)).trans (if_pos (Or.inl hn.done)),
    if_pos (show t .bar < n ∧ ¬ t (.send k) < n from ⟨by omega, hn.todo⟩), if_neg (show ¬ (t .bar < n + 1 ∧ ¬ t (.send k) < n + 1) from fun h => h.2 hn.done),
    if_neg (show ¬ t (.sw k) < n by omega), if_neg (show ¬ t (.sw k) < n + 1 by omega), if_neg hn.todo, if_pos hn.done, if_neg hn.todo, if_pos hn.done]
  iintro ⟨H2, H3, ⟨H4, H4'⟩, H5, H6⟩
  isplitl [H3 H4' H6]
  · isplitl [H3]; · iexact H3
    isplitl [H4']; · iexact H4'
    iexact H6
  iintro Hc
  isplitr; · iempintro
  isplitl [H2]; · iexact H2
  isplitr; · iempintro
  isplitl [H4 Hc]
  · isplitl [H4]; · iexact H4
    iexact Hc
  isplitl [H5]; · iexact H5
  iempintro

section Send

variable {d : Dev nD} {α : Type} {k : PUnit → Prog (TpuEff nD τ sig (Elt F) Λ₀ .tc) α} (k₀ : Msg)
  {hsc : (land k₀ : Memref sig (Dev.tc d : Thread nD τ).2.kind .vmem (Strip k₀.1 k₀.2.1) .bf16).view.ref.isScScratch = false}
  {hsrc : (from_ k₀).view.WordExact} {hdst : (land k₀).view.WordExact}
  {hsem : DmaTarget.Typed .vmem (.dma (recvS k₀)) (.remote (Dev.tc d : Thread nD τ) (land k₀ : Memref sig (Dev.tc d : Thread nD τ).2.kind .vmem (Strip k₀.1 k₀.2.1) .bf16) (.dma (sendS k₀)) hsc)}

/-- The start of a message of the first exchange. -/
theorem step_send0 {Q : α → sProp 𝕄} (hn : Now (.send k₀) n) (hst : t (.st k₀) < n ∧ ¬ 4 ≤ k₀.2.2.val) (hd : d = peer (mk k₀) c) (H : St m K c (n + 1) ⊢ run c (k ⟨⟩) Q) :
    St m K c n ⊢ run c (.op (.enqueueDma (from_ k₀) (.remote (Dev.tc d : Thread nD τ) (land k₀) (.dma (sendS k₀)) hsc) (.dma (recvS k₀)) hsrc hdst hsem) k) Q := by
  have hk := order_send k₀
  have h0 := hn.1
  have hq : ∀ k' ∈ Finset.univ.erase k₀, Quiet (.send k₀) k' := fun k' hk' =>
    quiet_send (Finset.ne_of_mem_erase hk').symm (fun h => absurd h hst.2)
  rw [St_at m K c k₀, slots_succ m c hn hq, misc_succ m c hn (by simp) (by simp) (by simp) (by simp)] at H
  rw [St_at m K c k₀]
  rw [show slot m c n k₀ = iprop(holds c (from_ k₀) (msg m k₀ c) ∗ dstAt m c n k₀ ∗ peerAt c n k₀ ∗ sendAt c n k₀ ∗ recvAt c n k₀ ∗ tokAt c n k₀) from by
    unfold slot; rw [show srcAt m c n k₀ = _ from (if_neg (by omega)).trans ((if_neg (by rintro (h | h); exacts [hn.todo h, hst.2 h])).trans (if_pos hst.1))]]
  iintro ⟨#HR, ⟨⟨Hf, Hs⟩, Hs'⟩, Ho, HM⟩
  ihave Hs := (slot_send m c hn) $$ Hs
  icases Hs with ⟨⟨Hp, Ht1, Ht2⟩, Hs⟩
  iapply (send_core m K c hn hd) $$ [Hf Hp Ho Ht1 Ht2]
  · isplitr; · iexact HR
    isplitl [Hf]; · iexact Hf
    isplitl [Hp]; · iexact Hp
    isplitl [Ho]; · iexact Ho
    isplitl [Ht1] <;> iassumption
  iintro ⟨Hc, Ho⟩
  iapply H
  isplitr; · iexact HR
  isplitl [Hs Hs' Hc]
  · isplitr [Hs']
    · iapply Hs $$ Hc
    iexact Hs'
  isplitl [Ho] <;> iassumption

theorem pass_on (k : Msg) (hk : 4 ≤ k.2.2.val) : holds c (land (src0 k)) (both m (src0 k) c) = holds c (from_ k) (msg m k c) := by
  obtain ⟨j, h, o⟩ := k
  fin_cases o <;> first | rfl | exact absurd hk (by dsimp only; decide)

/-- The start of a later message, from where an earlier one landed. -/
theorem step_send1 {Q : α → sProp 𝕄} (hn : Now (.send k₀) n) (ho : 4 ≤ k₀.2.2.val ∧ t (.acc (src0 k₀)) < n) (hd : d = peer (mk k₀) c) (H : St m K c (n + 1) ⊢ run c (k ⟨⟩) Q) :
    St m K c n ⊢ run c (.op (.enqueueDma (from_ k₀) (.remote (Dev.tc d : Thread nD τ) (land k₀) (.dma (sendS k₀)) hsc) (.dma (recvS k₀)) hsrc hdst hsem) k) Q := by
  have hk := order_send k₀
  have hk1 := order_send (src0 k₀)
  have hs1 := order_sig (mk (src0 k₀))
  have hr1 := order_rw (src0 k₀)
  have hf := fwd_src0 k₀ ho.1
  have h0 := hn.1
  have hne : src0 k₀ ≠ k₀ := by
    obtain ⟨j, h, o⟩ := k₀
    fin_cases o <;> simp [src0] at ho ⊢
  have hmem : src0 k₀ ∈ Finset.univ.erase k₀ := Finset.mem_erase.mpr ⟨hne, Finset.mem_univ _⟩
  have hq : ∀ k' ∈ (Finset.univ.erase k₀).erase (src0 k₀), Quiet (.send k₀) k' := fun k' hk' =>
    quiet_send (Finset.ne_of_mem_erase (Finset.mem_of_mem_erase hk')).symm (fun _ => (Finset.ne_of_mem_erase hk').symm)
  have e1 : ∀ n, bigSep (Finset.univ.erase k₀) (slot m c n) = iprop(slot m c n (src0 k₀) ∗ bigSep ((Finset.univ.erase k₀).erase (src0 k₀)) (slot m c n)) :=
    fun n => bigSep_erase hmem
  rw [St_at m K c k₀, e1, slots_succ m c hn hq, misc_succ m c hn (by simp) (by simp) (by simp) (by simp)] at H
  rw [St_at m K c k₀, e1]
  have e2 : slot m c n (src0 k₀) ⊢ iprop(holds c (from_ k₀) (msg m k₀ c) ∗ slot m c (n + 1) (src0 k₀)) := by
    rw [← pass_on m c k₀ ho.1]
    unfold slot
    rw [srcAt_succ m c hn (by simp) (by simpa using hne.symm) (by simp), peerAt_succ c hn (by simp) (by simpa using hne.symm),
      sendAt_succ c hn (by simp) (by simpa using hne.symm), recvAt_succ c hn (by simp), tokAt_succ c hn (by simpa using hne.symm),
      show dstAt m c n (src0 k₀) = holds c (land (src0 k₀)) (both m (src0 k₀) c) from
        (if_neg (by omega)).trans ((if_neg (by omega)).trans ((if_neg (by omega)).trans (if_neg (by omega)))),
      show dstAt m c (n + 1) (src0 k₀) = iprop(emp) from
        (if_neg (by omega)).trans ((if_neg (by omega)).trans ((if_neg (by omega)).trans (if_pos (by omega))))]
    iintro ⟨H1, H2, H3⟩
    isplitl [H2]; · iexact H2
    isplitl [H1]; · iexact H1
    isplitr; · iempintro
    iexact H3
  rw [show slot m c n k₀ = iprop(emp ∗ dstAt m c n k₀ ∗ peerAt c n k₀ ∗ sendAt c n k₀ ∗ recvAt c n k₀ ∗ tokAt c n k₀) from by
    unfold slot; rw [show srcAt m c n k₀ = _ from (if_neg (by omega)).trans (if_pos (Or.inr ho.1))]]
  iintro ⟨#HR, ⟨⟨-, Hs⟩, Hq, Hs'⟩, Ho, HM⟩
  ihave Hs := (slot_send m c hn) $$ Hs
  icases Hs with ⟨⟨Hp, Ht1, Ht2⟩, Hs⟩
  ihave Hq := e2 $$ Hq
  icases Hq with ⟨Hf, Hq⟩
  iapply (send_core m K c hn hd) $$ [Hf Hp Ho Ht1 Ht2]
  · isplitr; · iexact HR
    isplitl [Hf]; · iexact Hf
    isplitl [Hp]; · iexact Hp
    isplitl [Ho]; · iexact Ho
    isplitl [Ht1] <;> iassumption
  iintro ⟨Hc, Ho⟩
  iapply H
  isplitr; · iexact HR
  isplitl [Hs Hs' Hq Hc]
  · isplitl [Hs Hc]
    · iapply Hs $$ Hc
    isplitl [Hq] <;> iassumption
  isplitl [Ho] <;> iassumption

end Send

end Cert.RS

end
-- ==== Proof.Whole.lean ====
/-
The accesses to the buffers a device has to itself: its blocks of the two arrays, the working copy of the first, and
the result it stores strip by strip.
-/
module

public import proofs.«01_k».proof.Proof.Messages

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD) {n : ℕ}

theorem misc_in : misc m c n ⊢ iprop(inAt m c ∗ (inAt m c -∗ misc m c n)) := by
  unfold misc
  iintro ⟨H1, H2, H3, H4, H5⟩
  isplitl [H4]; · iexact H4
  iintro H4
  isplitl [H1]; · iexact H1
  isplitl [H2]; · iexact H2
  isplitl [H3]; · iexact H3
  isplitl [H4] <;> iassumption

theorem misc_x : misc m c n ⊢ iprop(xAt m c n ∗ (xAt m c n -∗ misc m c n)) := by
  unfold misc
  iintro ⟨H1, H2, H3, H4, H5⟩
  isplitl [H3]; · iexact H3
  iintro H3
  isplitl [H1]; · iexact H1
  isplitl [H2]; · iexact H2
  isplitl [H3]; · iexact H3
  isplitl [H4] <;> iassumption

theorem misc_out : misc m c n ⊢ iprop(outAt m c n ∗ (outAt m c n -∗ misc m c n)) := by
  unfold misc
  iintro ⟨H1, H2, H3, H4, H5⟩
  isplitl [H5]; · iexact H5
  iintro H5
  isplitl [H1]; · iexact H1
  isplitl [H2]; · iexact H2
  isplitl [H3]; · iexact H3
  isplitl [H4] <;> iassumption

/-! ## Loads -/

/-- The load of the device's block of the first array. -/
theorem load_x {inb} {α : Type} {Q : α → sProp 𝕄} {hl : (Memref.whole cc0_stg0_0 : Memref sig .tc .vmem S2048x256 .bf16).view.LoadsAt (Rect.unit (s := S2048x256) ![0, 0] S2048x256.size inb).toLoadRect}
    {k : (S2048x256.Idx → Elt F .bf16) → Prog (TpuEff nD τ sig (Elt F) Λ₀ .tc) α} (H : St m K c n ⊢ run c (k (xstg m c)) Q) :
    St m K c n ⊢ run c (.op (.load (Memref.whole cc0_stg0_0) (Rect.unit (s := S2048x256) ![0, 0] S2048x256.size inb).toLoadRect hl) k) Q := by
  unfold St at H ⊢
  iintro ⟨HR, Hs, Ho, HM⟩
  ihave HM := (misc_in m c) $$ HM
  icases HM with ⟨HI, HM⟩
  unfold inAt
  icases HI with ⟨Hx, Hw⟩
  iapply (wp_load 𝒱₀ (c : Thread nD τ) none Set.univ (m := Memref.whole cc0_stg0_0) (r := (Rect.unit (s := S2048x256) ![0, 0] S2048x256.size inb).toLoadRect)
    (S := Finset.univ) (Finset.subset_univ _)) $$ Hx
  iintro Hx
  rw [show (Memref.whole cc0_stg0_0 : Memref sig .tc .vmem S2048x256 .bf16).view.readAt (Elt F) (Rect.unit (s := S2048x256) ![0, 0] S2048x256.size inb).toLoadRect (xstg m c) = xstg m c
    from Memref.readAt_unit_zero (Elt F) cc0_stg0_0 (by decide) inb (xstg m c)]
  iapply H
  isplitl [HR]; · iexact HR
  isplitl [Hs]; · iexact Hs
  isplitl [Ho]; · iexact Ho
  iapply HM
  isplitl [Hx] <;> iassumption

/-- A load from the device's block of the second array. -/
theorem load_w {r : Rect S256x2048} {α : Type} {Q : α → sProp 𝕄} {hl : (Memref.whole cc0_stg1_0 : Memref sig .tc .vmem S256x2048 .bf16).view.LoadsAt r.toLoadRect}
    {k : (r.toLoadRect.shape.Idx → Elt F .bf16) → Prog (TpuEff nD τ sig (Elt F) Λ₀ .tc) α}
    (H : St m K c n ⊢ run c (k ((Memref.whole cc0_stg1_0 : Memref sig .tc .vmem S256x2048 .bf16).view.readAt (Elt F) r.toLoadRect (wstg m c))) Q) :
    St m K c n ⊢ run c (.op (.load (Memref.whole cc0_stg1_0) r.toLoadRect hl) k) Q := by
  unfold St at H ⊢
  iintro ⟨HR, Hs, Ho, HM⟩
  ihave HM := (misc_in m c) $$ HM
  icases HM with ⟨HI, HM⟩
  unfold inAt
  icases HI with ⟨Hx, Hw⟩
  iapply (wp_load 𝒱₀ (c : Thread nD τ) none Set.univ (m := Memref.whole cc0_stg1_0) (r := r.toLoadRect) (S := Finset.univ) (Finset.subset_univ _)) $$ Hw
  iintro Hw
  iapply H
  isplitl [HR]; · iexact HR
  isplitl [Hs]; · iexact Hs
  isplitl [Ho]; · iexact Ho
  iapply HM
  isplitl [Hx] <;> iassumption

/-- The load of the working copy before it is made, its value not used. -/
theorem load_xwork (hn : ¬ t .copyX < n) {r : Rect S2048x256} {α : Type} {Q : α → sProp 𝕄} {hl : (Memref.whole cc0_scratch0 : Memref sig .tc .vmem S2048x256 .bf16).view.LoadsAt r.toLoadRect}
    {k : (r.toLoadRect.shape.Idx → Elt F .bf16) → Prog (TpuEff nD τ sig (Elt F) Λ₀ .tc) α} (H : ∀ v, St m K c n ⊢ run c (k v) Q) :
    St m K c n ⊢ run c (.op (.load (Memref.whole cc0_scratch0) r.toLoadRect hl) k) Q := by
  have e := misc_x m c (n := n)
  rw [show xAt m c n = iprop(∃ f, ((c : Thread nD τ).loc cc0_scratch0) ↦{fullShare} f) from if_neg hn] at e
  unfold St at H ⊢
  iintro ⟨HR, Hs, Ho, HM⟩
  ihave HM := e $$ HM
  icases HM with ⟨⟨%f, Hx⟩, HM⟩
  iapply (wp_load 𝒱₀ (c : Thread nD τ) none Set.univ (m := Memref.whole cc0_scratch0) (r := r.toLoadRect) (S := Finset.univ) (Finset.subset_univ _)) $$ Hx
  iintro Hx
  iapply (H _)
  isplitl [HR]; · iexact HR
  isplitl [Hs]; · iexact Hs
  isplitl [Ho]; · iexact Ho
  iapply HM
  iexists f
  iexact Hx

/-- The load of the rows of the working copy that device `d` needs. -/
theorem load_rows (hn : t .copyX < n) (d : Dev nD) {o : Fin 2 → ℕ} (ho : o = ![256 * d.val, 0]) {inb} {α : Type} {Q : α → sProp 𝕄}
    {hl : (Memref.whole cc0_scratch0 : Memref sig .tc .vmem S2048x256 .bf16).view.LoadsAt (Rect.unit (s := S2048x256) o S256x256.size inb).toLoadRect}
    {k : (S256x256.Idx → Elt F .bf16) → Prog (TpuEff nD τ sig (Elt F) Λ₀ .tc) α} (H : St m K c n ⊢ run c (k (rows m c d)) Q) :
    St m K c n ⊢ run c (.op (.load (Memref.whole cc0_scratch0) (Rect.unit (s := S2048x256) o S256x256.size inb).toLoadRect hl) k) Q := by
  subst ho
  have e := misc_x m c (n := n)
  rw [show xAt m c n = iprop(((c : Thread nD τ).loc cc0_scratch0) ↦{fullShare} (xwork m c)) from if_pos hn] at e
  unfold St at H ⊢
  iintro ⟨HR, Hs, Ho, HM⟩
  ihave HM := e $$ HM
  icases HM with ⟨Hx, HM⟩
  iapply (wp_load 𝒱₀ (c : Thread nD τ) none Set.univ (m := Memref.whole cc0_scratch0) (S := Finset.univ) (Finset.subset_univ _)) $$ Hx
  iintro Hx
  iapply H
  isplitl [HR]; · iexact HR
  isplitl [Hs]; · iexact Hs
  isplitl [Ho]; · iexact Ho
  iapply HM
  iexact Hx

/-- The load before a store of a strip of the result, its value not used. -/
theorem load_out {r : Rect S256x2048} {α : Type} {Q : α → sProp 𝕄} {hl : (Memref.whole cc0_stg2_0 : Memref sig .tc .vmem S256x2048 .f32).view.LoadsAt r.toLoadRect}
    {k : (r.toLoadRect.shape.Idx → Elt F .f32) → Prog (TpuEff nD τ sig (Elt F) Λ₀ .tc) α} (H : ∀ v, St m K c n ⊢ run c (k v) Q) :
    St m K c n ⊢ run c (.op (.load (Memref.whole cc0_stg2_0) r.toLoadRect hl) k) Q := by
  have e := misc_out m c (n := n)
  unfold outAt at e
  unfold St at H ⊢
  iintro ⟨HR, Hs, Ho, HM⟩
  ihave HM := e $$ HM
  icases HM with ⟨⟨%f, %hf, Hx⟩, HM⟩
  iapply (wp_load 𝒱₀ (c : Thread nD τ) none Set.univ (m := Memref.whole cc0_stg2_0) (r := r.toLoadRect) (S := Finset.univ) (Finset.subset_univ _)) $$ Hx
  iintro Hx
  iapply (H _)
  isplitl [HR]; · iexact HR
  isplitl [Hs]; · iexact Hs
  isplitl [Ho]; · iexact Ho
  iapply HM
  iexists f
  isplitr; · ipureintro; exact hf
  iexact Hx

/-! ## The working copy -/

theorem step_copyX (hn : Now .copyX n) {inb} {α : Type} {Q : α → sProp 𝕄}
    {w : S2048x256.Idx → Elt F .bf16} (hw : w = xwork m c)
    {hx : ((Memref.whole cc0_scratch0 : Memref sig .tc .vmem S2048x256 .bf16).access (Rect.unit (s := S2048x256) ![0, 0] S2048x256.size inb)).Stores Finset.univ} {hm}
    {k : PUnit → Prog (TpuEff nD τ sig (Elt F) Λ₀ .tc) α} (H : St m K c (n + 1) ⊢ run c (k ⟨⟩) Q) :
    St m K c n ⊢ run c (.op (.store (Memref.whole cc0_scratch0) (Rect.unit (s := S2048x256) ![0, 0] S2048x256.size inb) w Finset.univ hx hm) k) Q := by
  subst hw
  unfold St misc at H ⊢
  rw [slots_succ m c hn (fun k' _ => ⟨by simp, by simp, by simp, by simp, by simp, by simp, by simp, by simp⟩), oweAt_succ c hn (by simp) (by simp),
    sigs_succ c hn (by simp), barAt_succ c hn (by simp), outAt_succ m c hn (by simp),
    show xAt m c (n + 1) = iprop(((c : Thread nD τ).loc cc0_scratch0) ↦{fullShare} (xwork m c)) from if_pos hn.done] at H
  rw [show xAt m c n = iprop(∃ f, ((c : Thread nD τ).loc cc0_scratch0) ↦{fullShare} f) from if_neg hn.todo]
  iintro ⟨HR, Hs, Ho, H1, H2, ⟨%f, Hx⟩, H4, H5⟩
  iapply (wp_store 𝒱₀ (c : Thread nD τ) none Set.univ (m := Memref.whole cc0_scratch0) (r := Rect.unit (s := S2048x256) ![0, 0] S2048x256.size inb) (Mk := Finset.univ) (S := Finset.univ) (Finset.subset_univ _)) $$ Hx
  iintro Hx
  rw [show ((Memref.whole cc0_scratch0 : Memref sig .tc .vmem S2048x256 .bf16).access (Rect.unit (s := S2048x256) ![0, 0] S2048x256.size inb)).write (Elt F) f (xwork m c) Finset.univ = xwork m c
    from Memref.write_access_unit_zero_univ (Elt F) cc0_scratch0 (by decide) inb f (xwork m c)]
  iapply H
  isplitl [HR]; · iexact HR
  isplitl [Hs]; · iexact Hs
  isplitl [Ho]; · iexact Ho
  isplitl [H1]; · iexact H1
  isplitl [H2]; · iexact H2
  isplitl [Hx]; · iexact Hx
  isplitl [H4] <;> iassumption

/-! ## The result -/

theorem inbO (j h : Fin 3) : ∀ a, (![0, coff j + off j h] : Fin 2 → ℕ) a + (![256, wid j h] : Fin 2 → ℕ) a ≤ S256x2048.size a := by revert j h; decide

/-- Where a strip stands in the result. -/
abbrev rectO (j h : Fin 3) : Rect S256x2048 := Rect.unit (s := S256x2048) ![0, coff j + off j h] ![256, wid j h] (inbO j h)

theorem place_of : ∀ x < 2048, coff (sliceOf x) + off (sliceOf x) (stripOf x) ≤ x ∧ x < coff (sliceOf x) + off (sliceOf x) (stripOf x) + wid (sliceOf x) (stripOf x) := by
  decide +kernel

theorem of_place : ∀ (j h : Fin 3) (x : Fin 256), x.val < wid j h → sliceOf (coff j + off j h + x.val) = j ∧ stripOf (coff j + off j h + x.val) = h := by
  decide +kernel

theorem out_write {j h : Fin 3} (hn : Now (.out (j, h)) n) (f : (cc0_stg2_0 : Ref sig .tc).ty.Contents (Elt F)) (hf : outOk m c n f) :
    outOk m c (n + 1) (((Memref.whole cc0_stg2_0 : Memref sig .tc .vmem S256x2048 .f32).access (rectO j h)).write (Elt F) f (strip m j h c) Finset.univ) := by
  intro i hi
  have hI1 : (i 1).val < 2048 := (i 1).isLt
  have hI0 : (i 0).val < 256 := (i 0).isLt
  by_cases e : (sliceOf (i 1).val, stripOf (i 1).val) = (j, h)
  · obtain ⟨rfl, rfl⟩ := Prod.mk.inj e
    obtain ⟨p1, p2⟩ := place_of _ hI1
    have hemb : ((Memref.whole cc0_stg2_0 : Memref sig .tc .vmem S256x2048 .f32).access (rectO (sliceOf (i 1).val) (stripOf (i 1).val))).emb
        (at2 (i 0).val ((i 1).val - (coff (sliceOf (i 1).val) + off (sliceOf (i 1).val) (stripOf (i 1).val)))) = i := by
      funext a
      refine Fin.ext ?_
      show ((rectO (sliceOf (i 1).val) (stripOf (i 1).val)).emb (at2 (i 0).val ((i 1).val - (coff (sliceOf (i 1).val) + off (sliceOf (i 1).val) (stripOf (i 1).val)))) a).val = (i a).val
      rw [Rect.emb_apply]
      fin_cases a
      · show 0 + 1 * ((i 0).val % 256) = (i 0).val
        rw [Nat.mod_eq_of_lt hI0]; omega
      · show coff (sliceOf (i 1).val) + off (sliceOf (i 1).val) (stripOf (i 1).val)
          + 1 * (((i 1).val - (coff (sliceOf (i 1).val) + off (sliceOf (i 1).val) (stripOf (i 1).val))) % wid (sliceOf (i 1).val) (stripOf (i 1).val)) = (i 1).val
        rw [Nat.mod_eq_of_lt (by omega)]; omega
    have hw := View.write_emb_of_mem (v := (Memref.whole cc0_stg2_0 : Memref sig .tc .vmem S256x2048 .f32).access (rectO (sliceOf (i 1).val) (stripOf (i 1).val)))
      (Val := Elt F) f (strip m (sliceOf (i 1).val) (stripOf (i 1).val) c) (M := Finset.univ) (Finset.mem_univ
        (at2 (i 0).val ((i 1).val - (coff (sliceOf (i 1).val) + off (sliceOf (i 1).val) (stripOf (i 1).val)))))
    rw [hemb] at hw
    exact hw
  · have ht := (hn.other (e' := .out (sliceOf (i 1).val, stripOf (i 1).val)) (fun h' => e (by cases h'; rfl))).mp hi
    rw [← hf i ht]
    refine View.write_of_not_mem _ _ _ ?_
    intro hm
    obtain ⟨x, -, hx⟩ := Finset.mem_map.mp hm
    have hx1 : (i 1).val = coff j + off j h + (x 1).val := by
      rw [← hx]
      show ((rectO j h).emb x 1).val = _
      rw [Rect.emb_apply]
      show coff j + off j h + 1 * (x 1).val = _
      omega
    have hx2 : (x 1).val < wid j h := (x 1).isLt
    obtain ⟨e1, e2⟩ := of_place j h ⟨(x 1).val, lt_of_lt_of_le hx2 (wid_le j h)⟩ hx2
    exact e (by rw [hx1, e1, e2])

/-- The store of a strip of the result. -/
theorem step_out (j h : Fin 3) (hn : Now (.out (j, h)) n) {α : Type} {Q : α → sProp 𝕄} {w : (rectO j h).shape.Idx → Elt F .f32}
    (hw : w = finish j h (shapeCast (Strip j h) (shapeCast (Strip4 j h) (both m (j, h, 0) c) (cast4' j h)) (cast4 j h))
      (shapeCast (Strip j h) (shapeCast (Strip4 j h) (got m (j, h, 4) c) (cast4' j h)) (cast4 j h))
      (shapeCast (Strip j h) (shapeCast (Strip3 j h) (got m (j, h, 6) c) (cast3' j h)) (cast3 j h)))
    {hx : ((Memref.whole cc0_stg2_0 : Memref sig .tc .vmem S256x2048 .f32).access (rectO j h)).Stores Finset.univ} {hm}
    {k : PUnit → Prog (TpuEff nD τ sig (Elt F) Λ₀ .tc) α} (H : St m K c (n + 1) ⊢ run c (k ⟨⟩) Q) :
    St m K c n ⊢ run c (.op (.store (Memref.whole cc0_stg2_0) (rectO j h) w Finset.univ hx hm) k) Q := by
  rw [shapeCast_shapeCast, shapeCast_shapeCast, shapeCast_shapeCast, show finish j h _ _ _ = strip m j h c from rfl] at hw
  subst hw
  unfold St misc outAt at H ⊢
  rw [slots_succ m c hn (fun k' _ => ⟨by simp, by simp, by simp, by simp, by simp, by simp, by simp, by simp⟩), oweAt_succ c hn (by simp) (by simp),
    sigs_succ c hn (by simp), barAt_succ c hn (by simp), xAt_succ m c hn (by simp)] at H
  iintro ⟨HR, Hs, Ho, H1, H2, H3, H4, ⟨%f, %hf, Hx⟩⟩
  iapply (wp_store 𝒱₀ (c : Thread nD τ) none Set.univ (m := Memref.whole cc0_stg2_0) (r := rectO j h) (Mk := Finset.univ) (S := Finset.univ) (Finset.subset_univ _)) $$ Hx
  iintro Hx
  iapply H
  isplitl [HR]; · iexact HR
  isplitl [Hs]; · iexact Hs
  isplitl [Ho]; · iexact Ho
  isplitl [H1]; · iexact H1
  isplitl [H2]; · iexact H2
  isplitl [H3]; · iexact H3
  isplitl [H4]; · iexact H4
  iexists _
  isplitr; · ipureintro; exact out_write m c hn f hf
  iexact Hx

end Cert.RS

end
-- ==== Proof.Seg.lean ====
/-
Stretches of the run: a piece of the program that takes the state at one event to the state at a later one.
-/
module

public import proofs.«01_k».proof.Proof.Whole

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The program `p` takes the state before event `n` to the state before event `n'`, and returns a value satisfying `V`. -/
def Seg (n n' : ℕ) {α : Type} (p : Prog (TpuEff nD τ sig (Elt F) Λ₀ .tc) α) (V : α → Prop) : Prop :=
  ∀ Q : α → sProp 𝕄, (∀ a, V a → St m K c n' ⊢ Q a) → St m K c n ⊢ run c p Q

variable {m K c} {n n' n'' : ℕ} {α β : Type}

/-- The end of a stretch. -/
theorem done {a : α} {Q : α → sProp 𝕄} (h : St m K c n ⊢ Q a) : St m K c n ⊢ run c (.ret a) Q := by
  unfold run
  rw [wp_ret]
  iintro Hs
  imodintro
  iapply h $$ Hs

/-- One stretch after another. -/
theorem Seg.bind {p : Prog (TpuEff nD τ sig (Elt F) Λ₀ .tc) α} {k : α → Prog (TpuEff nD τ sig (Elt F) Λ₀ .tc) β} {V : α → Prop} {W : β → Prop}
    (h : Seg m K c n n' p V) (h' : ∀ a, V a → Seg m K c n' n'' (k a) W) : Seg m K c n n'' (p >>= k) W := fun Q H => by
  unfold run
  rw [wp_bind]
  exact h _ (fun a ha => h' a ha Q H)

/-- A stretch that is done before another. -/
theorem Seg.ret {a : α} {V : α → Prop} (h : V a) : Seg m K c n n (.ret a) V := fun Q H => done (H a h)

/-- The printed body's buffers and semaphores put into a piece of the body. -/
abbrev on {β : Type _} (p : (arg0 : Memref sig .tc .vmem S2048x256 .bf16) → arg0.IsWhole → (arg1 : Memref sig .tc .vmem S256x2048 .bf16) → arg1.IsWhole
      → (arg2 : Memref sig .tc .vmem S256x2048 .f32) → arg2.IsWhole → (arg3 : Memref sig .tc .vmem S2048x256 .bf16) → arg3.IsWhole
      → (arg4 : Memref sig .tc .vmem S3x4x256x256 .bf16) → arg4.IsWhole → (arg5 : Memref sig .tc .vmem S3x4x256x256 .bf16) → arg5.IsWhole
      → (arg6 : Memref sig .tc .vmem S3x4x256x256 .bf16) → arg6.IsWhole → (arg7 : Memref sig .tc .vmem S3x4x256x256 .bf16) → arg7.IsWhole
      → (arg8 : Memref sig .tc .vmem S3x4x256x256 .bf16) → arg8.IsWhole → (arg9 : Memref sig .tc .vmem S3x4x256x256 .bf16) → arg9.IsWhole
      → (arg10 : Memref sig .tc .vmem S3x2x256x256 .bf16) → arg10.IsWhole → (arg11 : Memref sig .tc .vmem S3x2x256x256 .bf16) → arg11.IsWhole
      → (arg12 : Memref sig .tc .vmem S3x2x256x256 .bf16) → arg12.IsWhole → (arg13 : Memref sig .tc .vmem S3x256x256 .bf16) → arg13.IsWhole
      → (arg14 : Memref sig .tc .vmem S3x256x256 .bf16) → arg14.IsWhole → (arg15 : Memref sig .tc .vmem S3x256x256 .bf16) → arg15.IsWhole
      → DmaSems sig S63 → DmaSems sig S63 → β) : β :=
  p (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) cc0_scratch13 cc0_scratch14

/-- The barrier semaphore as the body names it. -/
abbrev theBar : Sems sig S_ := SemArray.scalar (sig.barrier 0 rfl)

/-- What a load of an arrived message of the first exchange returns. -/
abbrev load0 (m : (ℓ : Loc nD τ sig) → Buf (Elt F) ℓ) (c : Dev nD) (j h : Fin 3) (i : Fin 4) : FVec F (Strip4 j h) .bf16 :=
  shapeCast (Strip4 j h) (got m (j, h, o0 i) c) (cast4' j h)

/-- What a load of a sum of the first exchange returns. -/
abbrev loadSum (m : (ℓ : Loc nD τ sig) → Buf (Elt F) ℓ) (c : Dev nD) (j h : Fin 3) (i : Fin 4) : FVec F (Strip4 j h) .bf16 :=
  shapeCast (Strip4 j h) (both m (j, h, o0 i) c) (cast4' j h)

/-- What a load of an arrived message of the second exchange returns. -/
abbrev load1 (m : (ℓ : Loc nD τ sig) → Buf (Elt F) ℓ) (c : Dev nD) (j h : Fin 3) (i : Fin 2) : FVec F (Strip4 j h) .bf16 :=
  shapeCast (Strip4 j h) (got m (j, h, o1 i) c) (cast4' j h)

/-- What a load of an arrived message of the third exchange returns. -/
abbrev load2 (m : (ℓ : Loc nD τ sig) → Buf (Elt F) ℓ) (c : Dev nD) (j h : Fin 3) : FVec F (Strip3 j h) .bf16 :=
  shapeCast (Strip3 j h) (got m (j, h, 6) c) (cast3' j h)

/-! ## The events, one line each

The times are read off the run, the devices off the printed numbers, the contents off the printed payloads. -/

section Steps

variable {k : PUnit → Prog (TpuEff nD τ sig (Elt F) Λ₀ .tc) α}

/-- A signal to a partner. -/
theorem signal (p : Fin 3) {Q : α → sProp 𝕄} {d : Dev nD} {a : ℤ} (H : St m K c (n + 1) ⊢ run c (k ⟨⟩) Q)
    (hn : Now (.sig p) n := by decide +kernel) (hd : d = peer p c := by clear * -; revert c; decide +kernel) (ha : a = ((1 : ℕ) : ℤ) := by rfl) :
    St m K c n ⊢ run c (.op (.semSignal (d : Thread nD τ) barS a) k) Q := step_sig m K c p hn hd ha H

/-- The wait for the three partners. -/
theorem meet {Q : α → sProp 𝕄} {a : ℤ} (H : St m K c (n + 1) ⊢ run c (k ⟨⟩) Q) (hn : Now .bar n := by decide +kernel) (ha : a = ((3 : ℕ) : ℤ) := by rfl) :
    St m K c n ⊢ run c (.op (.semWait barS a) k) Q := step_bar m K c hn ha H

/-- The arrival of a message. -/
theorem arrive (k₀ : Msg) {Q : α → sProp 𝕄} {sp sp' : Space} {s s' : Shape} {e e' : EltTy} {src : Memref sig .tc sp' s' e'} {dst : Memref sig .tc sp s e}
    {hsrc : src.view.WordExact} {hdst : dst.view.WordExact} (H : St m K c (n + 1) ⊢ run c (k ⟨⟩) Q) (hn : Now (.rw k₀) n := by decide +kernel)
    (hc : dst.view.dmaCredit = amt k₀ := by rfl) : St m K c n ⊢ run c (.op (.waitDma2 (recvS k₀) src dst hsrc hdst) k) Q := step_rw m K c k₀ hn hc H

/-- The end of a message's sending. -/
theorem leave (k₀ : Msg) {Q : α → sProp 𝕄} {sp sp' : Space} {s s' : Shape} {e e' : EltTy} {src : Memref sig .tc sp' s' e'} {dst : Memref sig .tc sp s e}
    {hsrc : src.view.WordExact} {hdst : dst.view.WordExact} (H : St m K c (n + 1) ⊢ run c (k ⟨⟩) Q) (hn : Now (.sw k₀) n := by decide +kernel)
    (hc : dst.view.dmaCredit = amt k₀ := by rfl) : St m K c n ⊢ run c (.op (.waitDma2 (sendS k₀) src dst hsrc hdst) k) Q := step_sw m K c k₀ hn hc H

section Send

variable {d : Dev nD} (k₀ : Msg)
  {hsc : (land k₀ : Memref sig (Dev.tc d : Thread nD τ).2.kind .vmem (Strip k₀.1 k₀.2.1) .bf16).view.ref.isScScratch = false}
  {hsrc : (from_ k₀).view.WordExact} {hdst : (land k₀).view.WordExact}
  {hsem : DmaTarget.Typed .vmem (.dma (recvS k₀)) (.remote (Dev.tc d : Thread nD τ) (land k₀ : Memref sig (Dev.tc d : Thread nD τ).2.kind .vmem (Strip k₀.1 k₀.2.1) .bf16) (.dma (sendS k₀)) hsc)}

/-- The start of a message of the first exchange. -/
theorem send {Q : α → sProp 𝕄} (H : St m K c (n + 1) ⊢ run c (k ⟨⟩) Q) (hn : Now (.send k₀) n := by decide +kernel)
    (hd : d = peer (mk k₀) c := by clear * -; revert c; decide +kernel) (hst : t (.st k₀) < n ∧ ¬ 4 ≤ k₀.2.2.val := by decide +kernel) :
    St m K c n ⊢ run c (.op (.enqueueDma (from_ k₀) (.remote (Dev.tc d : Thread nD τ) (land k₀) (.dma (sendS k₀)) hsc) (.dma (recvS k₀)) hsrc hdst hsem) k) Q :=
  step_send0 m K c k₀ hn hst hd H

/-- The start of a later message. -/
theorem pass {Q : α → sProp 𝕄} (H : St m K c (n + 1) ⊢ run c (k ⟨⟩) Q) (hn : Now (.send k₀) n := by decide +kernel)
    (hd : d = peer (mk k₀) c := by clear * -; revert c; decide +kernel) (ho : 4 ≤ k₀.2.2.val ∧ t (.acc (src0 k₀)) < n := by decide +kernel) :
    St m K c n ⊢ run c (.op (.enqueueDma (from_ k₀) (.remote (Dev.tc d : Thread nD τ) (land k₀) (.dma (sendS k₀)) hsc) (.dma (recvS k₀)) hsrc hdst hsem) k) Q :=
  step_send1 m K c k₀ hn ho hd H

end Send

section Rows

variable {o : Fin 2 → ℕ} {inb : ∀ a, o a + S256x256.size a ≤ S2048x256.size a}
  {hl : (Memref.whole cc0_scratch0 : Memref sig .tc .vmem S2048x256 .bf16).view.LoadsAt (Rect.unit (s := S2048x256) o S256x256.size inb).toLoadRect}
  {k : (S256x256.Idx → Elt F .bf16) → Prog (TpuEff nD τ sig (Elt F) Λ₀ .tc) α}

/-- The load of the rows whose product is sent as block `i` of slice `j`. -/
theorem rowsOut (j : Fin 3) (i : Fin 4) {Q : α → sProp 𝕄} (H : St m K c n ⊢ run c (k (rows m c (blk j i (peer (ord j 0) c)))) Q)
    (hn : t .copyX < n := by decide +kernel) (ho : o = ![256 * (blk j i (peer (ord j 0) c)).val, 0] := by clear * -; revert c; decide +kernel) :
    St m K c n ⊢ run c (.op (.load (Memref.whole cc0_scratch0) (Rect.unit (s := S2048x256) o S256x256.size inb).toLoadRect hl) k) Q :=
  load_rows m K c hn _ ho H

/-- The load of the rows whose product is kept as block `i` of slice `j`. -/
theorem rowsKept (j : Fin 3) (i : Fin 4) {Q : α → sProp 𝕄} (H : St m K c n ⊢ run c (k (rows m c (blk j i c))) Q)
    (hn : t .copyX < n := by decide +kernel) (ho : o = ![256 * (blk j i c).val, 0] := by clear * -; revert c; decide +kernel) :
    St m K c n ⊢ run c (.op (.load (Memref.whole cc0_scratch0) (Rect.unit (s := S2048x256) o S256x256.size inb).toLoadRect hl) k) Q :=
  load_rows m K c hn _ ho H

end Rows

/-- A first message's contents put where it leaves from. -/
theorem put (j h : Fin 3) (i : Fin 4) {Q : α → sProp 𝕄} {w : (rect4 j h i).shape.Idx → Elt F .bf16} {hl : (s0B j).view.LoadsAt (rect4 j h i).toLoadRect}
    {hx : ((s0B j).access (rect4 j h i)).Stores Finset.univ} {hm : (Finset.univ : Finset (rect4 j h i).shape.Idx) = Finset.univ ∨ ∀ a, (rect4 j h i).stride a = 1}
    (H : St m K c (n + 1) ⊢ run c (k ⟨⟩) Q) (hn : Now (.st (j, h, o0 i)) n := by decide +kernel)
    (hw : w = shapeCast (Strip4 j h) (first m j h i c) (cast4' j h) := by rfl) :
    St m K c n ⊢ run c (.op (.load (s0B j) (rect4 j h i).toLoadRect hl) fun _ => .op (.store (s0B j) (rect4 j h i) w Finset.univ hx hm) k) Q := by
  have ho : t (.st (j, h, o0 i)) < t (.send (j, h, o0 i)) := order_st j h i
  exact load_s0 m K c j h i ⟨by have := hn.1; omega, hn.todo⟩ (fun v => step_st m K c j h i hn hw H)

/-- The load of an arrived message of the first exchange. -/
theorem take0 (j h : Fin 3) (i : Fin 4) {Q : α → sProp 𝕄} {hl : (r0B j).view.LoadsAt (rect4 j h i).toLoadRect}
    {k : ((rect4 j h i).toLoadRect.shape.Idx → Elt F .bf16) → Prog (TpuEff nD τ sig (Elt F) Λ₀ .tc) α}
    (H : St m K c n ⊢ run c (k (shapeCast (Strip4 j h) (got m (j, h, o0 i) c) (cast4' j h))) Q)
    (h1 : t (.rw (j, h, o0 i)) < n ∧ ¬ t (.acc (j, h, o0 i)) < n := by decide +kernel) :
    St m K c n ⊢ run c (.op (.load (r0B j) (rect4 j h i).toLoadRect hl) k) Q := load_got0 m K c j h i h1 H

/-- The store of its sum with the device's own product. -/
theorem store0 (j h : Fin 3) (i : Fin 4) {Q : α → sProp 𝕄} {w : (rect4 j h i).shape.Idx → Elt F .bf16}
    {hx : ((r0B j).access (rect4 j h i)).Stores Finset.univ} {hm : (Finset.univ : Finset (rect4 j h i).shape.Idx) = Finset.univ ∨ ∀ a, (rect4 j h i).stride a = 1}
    (H : St m K c (n + 1) ⊢ run c (k ⟨⟩) Q) (hn : Now (.acc (j, h, o0 i)) n := by decide +kernel)
    (hw : w = shapeCast (Strip4 j h) (addf (mine m (j, h, o0 i) c) (shapeCast (Strip j h) (shapeCast (Strip4 j h) (got m (j, h, o0 i) c) (cast4' j h)) (cast4 j h))) (cast4' j h) := by rfl) :
    St m K c n ⊢ run c (.op (.store (r0B j) (rect4 j h i) w Finset.univ hx hm) k) Q := step_acc0 m K c j h i hn hw H

/-- The two loads and the store of an addition of the first exchange. -/
theorem add0 (j h : Fin 3) (i : Fin 4) {Q : α → sProp 𝕄} {w : ((rect4 j h i).toLoadRect.shape.Idx → Elt F .bf16) → (rect4 j h i).shape.Idx → Elt F .bf16}
    {hl hl' : (r0B j).view.LoadsAt (rect4 j h i).toLoadRect}
    {hx : ((r0B j).access (rect4 j h i)).Stores Finset.univ} {hm : (Finset.univ : Finset (rect4 j h i).shape.Idx) = Finset.univ ∨ ∀ a, (rect4 j h i).stride a = 1}
    (H : St m K c (n + 1) ⊢ run c (k ⟨⟩) Q) (hn : Now (.acc (j, h, o0 i)) n := by decide +kernel)
    (hw : w (shapeCast (Strip4 j h) (got m (j, h, o0 i) c) (cast4' j h)) = shapeCast (Strip4 j h) (addf (mine m (j, h, o0 i) c)
      (shapeCast (Strip j h) (shapeCast (Strip4 j h) (got m (j, h, o0 i) c) (cast4' j h)) (cast4 j h))) (cast4' j h) := by rfl) :
    St m K c n ⊢ run c (.op (.load (r0B j) (rect4 j h i).toLoadRect hl) fun v => .op (.load (r0B j) (rect4 j h i).toLoadRect hl') fun _ =>
      .op (.store (r0B j) (rect4 j h i) (w v) Finset.univ hx hm) k) Q := by
  have hr := order_rw (j, h, o0 i)
  have h0 := hn.1
  have hb : tEnd = 284 := rfl
  have h1 : t (.rw (j, h, o0 i)) < n ∧ ¬ t (.acc (j, h, o0 i)) < n := ⟨by omega, by omega⟩
  exact load_got0 m K c j h i h1 (load_got0 m K c j h i h1 (step_acc0 m K c j h i hn hw H))

/-- The load of a sum of the first exchange. -/
theorem takeSum (j h : Fin 3) (i : Fin 4) {Q : α → sProp 𝕄} {hl : (r0B j).view.LoadsAt (rect4 j h i).toLoadRect}
    {k : ((rect4 j h i).toLoadRect.shape.Idx → Elt F .bf16) → Prog (TpuEff nD τ sig (Elt F) Λ₀ .tc) α}
    (H : St m K c n ⊢ run c (k (shapeCast (Strip4 j h) (both m (j, h, o0 i) c) (cast4' j h))) Q)
    (h1 : t (.acc (j, h, o0 i)) < n ∧ ¬ fwd (j, h, o0 i) < n := by decide +kernel) :
    St m K c n ⊢ run c (.op (.load (r0B j) (rect4 j h i).toLoadRect hl) k) Q := load_both0 m K c j h i h1 H

/-- The load of an arrived message of the second exchange. -/
theorem take1 (j h : Fin 3) (i : Fin 2) {Q : α → sProp 𝕄} {hl : (r1B j).view.LoadsAt (rect2 j h i).toLoadRect}
    {k : ((rect2 j h i).toLoadRect.shape.Idx → Elt F .bf16) → Prog (TpuEff nD τ sig (Elt F) Λ₀ .tc) α}
    (H : St m K c n ⊢ run c (k (shapeCast (Strip4 j h) (got m (j, h, o1 i) c) (cast4' j h))) Q)
    (h1 : t (.rw (j, h, o1 i)) < n ∧ ¬ t (.acc (j, h, o1 i)) < n := by decide +kernel) :
    St m K c n ⊢ run c (.op (.load (r1B j) (rect2 j h i).toLoadRect hl) k) Q := load_got1 m K c j h i h1 H

/-- The store of its sum with what the first exchange left. -/
theorem store1 (j h : Fin 3) {Q : α → sProp 𝕄} {w : (rect2 j h 1).shape.Idx → Elt F .bf16}
    {hx : ((r1B j).access (rect2 j h 1)).Stores Finset.univ} {hm : (Finset.univ : Finset (rect2 j h 1).shape.Idx) = Finset.univ ∨ ∀ a, (rect2 j h 1).stride a = 1}
    (H : St m K c (n + 1) ⊢ run c (k ⟨⟩) Q) (hn : Now (.acc (j, h, 5)) n := by decide +kernel)
    (hw : w = shapeCast (Strip4 j h) (addf (shapeCast (Strip j h) (shapeCast (Strip4 j h) (both m (j, h, 2) c) (cast4' j h)) (cast4 j h))
      (shapeCast (Strip j h) (shapeCast (Strip4 j h) (got m (j, h, 5) c) (cast4' j h)) (cast4 j h))) (cast4' j h) := by rfl) :
    St m K c n ⊢ run c (.op (.store (r1B j) (rect2 j h 1) w Finset.univ hx hm) k) Q := step_acc1 m K c j h hn hw H

/-- The load of an arrived message of the third exchange. -/
theorem take2 (j h : Fin 3) {Q : α → sProp 𝕄} {hl : (r2B j).view.LoadsAt (rect1 j h).toLoadRect}
    {k : ((rect1 j h).toLoadRect.shape.Idx → Elt F .bf16) → Prog (TpuEff nD τ sig (Elt F) Λ₀ .tc) α}
    (H : St m K c n ⊢ run c (k (shapeCast (Strip3 j h) (got m (j, h, 6) c) (cast3' j h))) Q)
    (h1 : t (.rw (j, h, 6)) < n ∧ ¬ t (.acc (j, h, 6)) < n := by decide +kernel) :
    St m K c n ⊢ run c (.op (.load (r2B j) (rect1 j h).toLoadRect hl) k) Q := load_got2 m K c j h h1 H

/-- A strip of the result put in its place. -/
theorem put2 (j h : Fin 3) {Q : α → sProp 𝕄} {w : (rectO j h).shape.Idx → Elt F .f32}
    {hl : (Memref.whole cc0_stg2_0 : Memref sig .tc .vmem S256x2048 .f32).view.LoadsAt (rectO j h).toLoadRect}
    {hx : ((Memref.whole cc0_stg2_0 : Memref sig .tc .vmem S256x2048 .f32).access (rectO j h)).Stores Finset.univ} {hm}
    (H : St m K c (n + 1) ⊢ run c (k ⟨⟩) Q) (hn : Now (.out (j, h)) n := by decide +kernel)
    (hw : w = finish j h (shapeCast (Strip j h) (shapeCast (Strip4 j h) (both m (j, h, 0) c) (cast4' j h)) (cast4 j h))
      (shapeCast (Strip j h) (shapeCast (Strip4 j h) (got m (j, h, 4) c) (cast4' j h)) (cast4 j h))
      (shapeCast (Strip j h) (shapeCast (Strip3 j h) (got m (j, h, 6) c) (cast3' j h)) (cast3 j h)) := by rfl) :
    St m K c n ⊢ run c (.op (.load (Memref.whole cc0_stg2_0) (rectO j h).toLoadRect hl) fun _ => .op (.store (Memref.whole cc0_stg2_0) (rectO j h) w Finset.univ hx hm) k) Q :=
  load_out m K c (fun v => step_out m K c j h hn hw H)

end Steps

end Cert.RS

end
-- ==== Proof.Parts1.lean ====
/-
The printed body piece by piece: the meeting of the partners and the first messages.
-/
module

public import proofs.«01_k».proof.Proof.Seg

@[expose] public section

set_option maxRecDepth 8192

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem part1 : Seg m K c 0 4 (on (k0_part1 (F := F)))
    (fun v => v.1 = c ∧ v.2.2.1 = theBar ∧ v.2.2.2.1 = cols m c 0 ∧ v.2.2.2.2.1 = cols m c 1 ∧ v.2.2.2.2.2.1 = cols m c 2) := by
  intro Q H
  rw [k0_part1_eq_skeleton]
  unfold on k0_part1_skel
  simp only [semSignalWord, Prog.lift, Prog.bind_op, Prog.bind_ret, Prog.pure_eq_ret, wp_deviceId]
  refine signal 0 ?_
  refine signal 1 ?_
  refine signal 2 ?_
  refine load_x m K c ?_
  refine load_xwork m K c (by decide +kernel) fun v => ?_
  refine step_copyX m K c (by decide +kernel) rfl ?_
  refine load_w m K c ?_
  refine load_w m K c ?_
  refine load_w m K c ?_
  exact done (H _ ⟨rfl, rfl, rfl, rfl, rfl⟩)

theorem part2 (v2 v24) : Seg m K c 4 9 (on (k0_part2 (F := F)) c v2 theBar (cols m c 0) v24) (fun _ => True) := by
  intro Q H
  rw [k0_part2_eq_skeleton]
  unfold on k0_part2_skel
  simp only [semWaitWord, Prog.lift, Prog.bind_op, Prog.bind_ret, Prog.pure_eq_ret]
  refine rowsOut 0 0 ?_
  refine put 0 0 0 ?_
  refine put 0 1 0 ?_
  refine put 0 2 0 ?_
  refine meet ?_
  refine send (0, 0, 0) ?_
  exact done (H _ trivial)

theorem part3 (v53) : Seg m K c 9 13 (on (k0_part3 (F := F)) c (cols m c 1) v53) (fun _ => True) := by
  intro Q H
  rw [k0_part3_eq_skeleton]
  unfold on k0_part3_skel
  simp only [Prog.lift, Prog.bind_op, Prog.bind_ret, Prog.pure_eq_ret]
  refine rowsOut 1 0 ?_
  refine put 1 0 0 ?_
  refine put 1 1 0 ?_
  refine put 1 2 0 ?_
  refine send (1, 0, 0) ?_
  exact done (H _ trivial)

theorem part4 (v2) : Seg m K c 13 16 (on (k0_part4 (F := F)) c v2 (cols m c 2)) (fun _ => True) := by
  intro Q H
  rw [k0_part4_eq_skeleton]
  unfold on k0_part4_skel
  simp only [Prog.lift, Prog.bind_op, Prog.bind_ret, Prog.pure_eq_ret]
  refine rowsOut 2 0 ?_
  refine put 2 0 0 ?_
  refine put 2 1 0 ?_
  refine put 2 2 0 ?_
  exact done (H _ trivial)

theorem part5 (v2) : Seg m K c 16 20 (on (k0_part5 (F := F)) c v2 (cols m c 0)) (fun _ => True) := by
  intro Q H
  rw [k0_part5_eq_skeleton]
  unfold on k0_part5_skel
  simp only [Prog.lift, Prog.bind_op, Prog.bind_ret, Prog.pure_eq_ret]
  refine send (2, 0, 0) ?_
  refine rowsOut 0 1 ?_
  refine put 0 0 1 ?_
  refine put 0 1 1 ?_
  refine put 0 2 1 ?_
  exact done (H _ trivial)

theorem part6 (v2) : Seg m K c 20 24 (on (k0_part6 (F := F)) c v2 (cols m c 1)) (fun _ => True) := by
  intro Q H
  rw [k0_part6_eq_skeleton]
  unfold on k0_part6_skel
  simp only [Prog.lift, Prog.bind_op, Prog.bind_ret, Prog.pure_eq_ret]
  refine send (0, 0, 1) ?_
  refine rowsOut 1 1 ?_
  refine put 1 0 1 ?_
  refine put 1 1 1 ?_
  refine put 1 2 1 ?_
  exact done (H _ trivial)

theorem part7 (v2) : Seg m K c 24 28 (on (k0_part7 (F := F)) c v2 (cols m c 2)) (fun _ => True) := by
  intro Q H
  rw [k0_part7_eq_skeleton]
  unfold on k0_part7_skel
  simp only [Prog.lift, Prog.bind_op, Prog.bind_ret, Prog.pure_eq_ret]
  refine send (1, 0, 1) ?_
  refine rowsOut 2 1 ?_
  refine put 2 0 1 ?_
  refine put 2 1 1 ?_
  refine put 2 2 1 ?_
  exact done (H _ trivial)

theorem part8 (v2) : Seg m K c 28 32 (on (k0_part8 (F := F)) c v2 (cols m c 0)) (fun _ => True) := by
  intro Q H
  rw [k0_part8_eq_skeleton]
  unfold on k0_part8_skel
  simp only [Prog.lift, Prog.bind_op, Prog.bind_ret, Prog.pure_eq_ret]
  refine send (2, 0, 1) ?_
  refine rowsOut 0 2 ?_
  refine put 0 0 2 ?_
  refine put 0 1 2 ?_
  refine put 0 2 2 ?_
  exact done (H _ trivial)

theorem part9 (v2) : Seg m K c 32 36 (on (k0_part9 (F := F)) c v2 (cols m c 1)) (fun _ => True) := by
  intro Q H
  rw [k0_part9_eq_skeleton]
  unfold on k0_part9_skel
  simp only [Prog.lift, Prog.bind_op, Prog.bind_ret, Prog.pure_eq_ret]
  refine send (0, 0, 2) ?_
  refine rowsOut 1 2 ?_
  refine put 1 0 2 ?_
  refine put 1 1 2 ?_
  refine put 1 2 2 ?_
  exact done (H _ trivial)

theorem part10 (v2) : Seg m K c 36 40 (on (k0_part10 (F := F)) c v2 (cols m c 2)) (fun _ => True) := by
  intro Q H
  rw [k0_part10_eq_skeleton]
  unfold on k0_part10_skel
  simp only [Prog.lift, Prog.bind_op, Prog.bind_ret, Prog.pure_eq_ret]
  refine send (1, 0, 2) ?_
  refine rowsOut 2 2 ?_
  refine put 2 0 2 ?_
  refine put 2 1 2 ?_
  refine put 2 2 2 ?_
  exact done (H _ trivial)

theorem part11 (v2 v275 c0_i32_262) : Seg m K c 40 44 (on (k0_part11 (F := F)) c v2 (cols m c 0) v275 c0_i32_262) (fun _ => True) := by
  intro Q H
  rw [k0_part11_eq_skeleton]
  unfold on k0_part11_skel
  simp only [Prog.lift, Prog.bind_op, Prog.bind_ret, Prog.pure_eq_ret]
  refine send (2, 0, 2) ?_
  refine rowsOut 0 3 ?_
  refine put 0 0 3 ?_
  refine put 0 1 3 ?_
  refine put 0 2 3 ?_
  exact done (H _ trivial)

theorem part12 (v2 v285 c1_i32_288) : Seg m K c 44 48 (on (k0_part12 (F := F)) c v2 (cols m c 1) v285 c1_i32_288) (fun _ => True) := by
  intro Q H
  rw [k0_part12_eq_skeleton]
  unfold on k0_part12_skel
  simp only [Prog.lift, Prog.bind_op, Prog.bind_ret, Prog.pure_eq_ret]
  refine send (0, 0, 3) ?_
  refine rowsOut 1 3 ?_
  refine put 1 0 3 ?_
  refine put 1 1 3 ?_
  refine put 1 2 3 ?_
  exact done (H _ trivial)

theorem part13 (v2 v314) : Seg m K c 48 52 (on (k0_part13 (F := F)) c v2 (cols m c 2) v314) (fun _ => True) := by
  intro Q H
  rw [k0_part13_eq_skeleton]
  unfold on k0_part13_skel
  simp only [Prog.lift, Prog.bind_op, Prog.bind_ret, Prog.pure_eq_ret]
  refine send (1, 0, 3) ?_
  refine rowsOut 2 3 ?_
  refine put 2 0 3 ?_
  refine put 2 1 3 ?_
  refine put 2 2 3 ?_
  exact done (H _ trivial)

theorem part14 (v2 v343) : Seg m K c 52 54 (on (k0_part14 (F := F)) c v2 v343) (fun _ => True) := by
  intro Q H
  rw [k0_part14_eq_skeleton]
  unfold on k0_part14_skel
  simp only [Prog.lift, Prog.bind_op, Prog.bind_ret, Prog.pure_eq_ret]
  refine send (2, 0, 3) ?_
  refine send (0, 1, 0) ?_
  exact done (H _ trivial)

theorem part15 (v2) : Seg m K c 54 57 (on (k0_part15 (F := F)) c v2) (fun _ => True) := by
  intro Q H
  rw [k0_part15_eq_skeleton]
  unfold on k0_part15_skel
  simp only [Prog.lift, Prog.bind_op, Prog.bind_ret, Prog.pure_eq_ret]
  refine send (1, 1, 0) ?_
  refine send (2, 1, 0) ?_
  refine send (0, 1, 1) ?_
  exact done (H _ trivial)

theorem part16 (v2) : Seg m K c 57 59 (on (k0_part16 (F := F)) c v2) (fun _ => True) := by
  intro Q H
  rw [k0_part16_eq_skeleton]
  unfold on k0_part16_skel
  simp only [Prog.lift, Prog.bind_op, Prog.bind_ret, Prog.pure_eq_ret]
  refine send (1, 1, 1) ?_
  refine send (2, 1, 1) ?_
  exact done (H _ trivial)

theorem part17 (v2 v439) : Seg m K c 59 61 (on (k0_part17 (F := F)) c v2 v439) (fun _ => True) := by
  intro Q H
  rw [k0_part17_eq_skeleton]
  unfold on k0_part17_skel
  simp only [Prog.lift, Prog.bind_op, Prog.bind_ret, Prog.pure_eq_ret]
  refine send (0, 1, 2) ?_
  refine send (1, 1, 2) ?_
  exact done (H _ trivial)

theorem part18 (v2) : Seg m K c 61 64 (on (k0_part18 (F := F)) c v2) (fun _ => True) := by
  intro Q H
  rw [k0_part18_eq_skeleton]
  unfold on k0_part18_skel
  simp only [Prog.lift, Prog.bind_op, Prog.bind_ret, Prog.pure_eq_ret]
  refine send (2, 1, 2) ?_
  refine send (0, 1, 3) ?_
  refine send (1, 1, 3) ?_
  exact done (H _ trivial)

theorem part19 (v2 v493) : Seg m K c 64 66 (on (k0_part19 (F := F)) c v2 v493) (fun _ => True) := by
  intro Q H
  rw [k0_part19_eq_skeleton]
  unfold on k0_part19_skel
  simp only [Prog.lift, Prog.bind_op, Prog.bind_ret, Prog.pure_eq_ret]
  refine send (2, 1, 3) ?_
  refine send (0, 2, 0) ?_
  exact done (H _ trivial)

theorem part20 (v2) : Seg m K c 66 69 (on (k0_part20 (F := F)) c v2) (fun _ => True) := by
  intro Q H
  rw [k0_part20_eq_skeleton]
  unfold on k0_part20_skel
  simp only [Prog.lift, Prog.bind_op, Prog.bind_ret, Prog.pure_eq_ret]
  refine send (1, 2, 0) ?_
  refine send (2, 2, 0) ?_
  refine send (0, 2, 1) ?_
  exact done (H _ trivial)

theorem part21 (v2) : Seg m K c 69 71 (on (k0_part21 (F := F)) c v2) (fun _ => True) := by
  intro Q H
  rw [k0_part21_eq_skeleton]
  unfold on k0_part21_skel
  simp only [Prog.lift, Prog.bind_op, Prog.bind_ret, Prog.pure_eq_ret]
  refine send (1, 2, 1) ?_
  refine send (2, 2, 1) ?_
  exact done (H _ trivial)

theorem part22 (v2 v571) : Seg m K c 71 73 (on (k0_part22 (F := F)) c v2 v571) (fun _ => True) := by
  intro Q H
  rw [k0_part22_eq_skeleton]
  unfold on k0_part22_skel
  simp only [Prog.lift, Prog.bind_op, Prog.bind_ret, Prog.pure_eq_ret]
  refine send (0, 2, 2) ?_
  refine send (1, 2, 2) ?_
  exact done (H _ trivial)

theorem part23 (v2) : Seg m K c 73 76 (on (k0_part23 (F := F)) c v2) (fun _ => True) := by
  intro Q H
  rw [k0_part23_eq_skeleton]
  unfold on k0_part23_skel
  simp only [Prog.lift, Prog.bind_op, Prog.bind_ret, Prog.pure_eq_ret]
  refine send (2, 2, 2) ?_
  refine send (0, 2, 3) ?_
  refine send (1, 2, 3) ?_
  exact done (H _ trivial)

theorem part24 (v2 v625) : Seg m K c 76 77 (on (k0_part24 (F := F)) c v2 (cols m c 1) (cols m c 2) v625) (fun v => v.1 = part m c (blk 1 1 c) 1 ∧ v.2.1 = part m c (blk 1 3 c) 1 ∧ v.2.2.1 = part m c (blk 2 1 c) 2 ∧ v.2.2.2 = part m c (blk 2 3 c) 2) := by
  intro Q H
  rw [k0_part24_eq_skeleton]
  unfold on k0_part24_skel
  simp only [Prog.lift, Prog.bind_op, Prog.bind_ret, Prog.pure_eq_ret]
  refine send (2, 2, 3) ?_
  refine rowsKept 1 1 ?_
  refine rowsKept 1 3 ?_
  refine rowsKept 2 1 ?_
  refine rowsKept 2 3 ?_
  exact done (H _ ⟨rfl, rfl, rfl, rfl⟩)

theorem part25 (v2) : Seg m K c 77 77 (on (k0_part25 (F := F)) c v2 (cols m c 0) (cols m c 1) (cols m c 2)) (fun v => v.1 = part m c (blk 0 1 c) 0 ∧ v.2.1 = part m c (blk 0 3 c) 0 ∧ v.2.2.1 = part m c (blk 1 0 c) 1 ∧ v.2.2.2.1 = part m c (blk 1 2 c) 1 ∧ v.2.2.2.2.1 = part m c (blk 2 0 c) 2 ∧ v.2.2.2.2.2 = part m c (blk 2 2 c) 2) := by
  intro Q H
  rw [k0_part25_eq_skeleton]
  unfold on k0_part25_skel
  simp only [Prog.lift, Prog.bind_op, Prog.bind_ret, Prog.pure_eq_ret]
  refine rowsKept 0 1 ?_
  refine rowsKept 0 3 ?_
  refine rowsKept 1 0 ?_
  refine rowsKept 1 2 ?_
  refine rowsKept 2 0 ?_
  refine rowsKept 2 2 ?_
  exact done (H _ ⟨rfl, rfl, rfl, rfl, rfl, rfl⟩)

theorem part26 (v2 v140) : Seg m K c 77 79 (on (k0_part26 (F := F)) c v2 (cols m c 0) v140 (part m c (blk 1 1 c) 1)) (fun v => v.1 = part m c (blk 0 0 c) 0 ∧ v.2.1 = part m c (blk 0 2 c) 0) := by
  intro Q H
  rw [k0_part26_eq_skeleton]
  unfold on k0_part26_skel
  simp only [Prog.lift, Prog.bind_op, Prog.bind_ret, Prog.pure_eq_ret]
  refine rowsKept 0 0 ?_
  refine rowsKept 0 2 ?_
  refine arrive (1, 0, 1) ?_
  refine add0 1 0 1 ?_
  exact done (H _ ⟨rfl, rfl⟩)

end Cert.RS

end
-- ==== Proof.Parts2.lean ====
/-
The printed body piece by piece: the additions of the first exchange and the second messages.
-/
module

public import proofs.«01_k».proof.Proof.Seg

@[expose] public section

set_option maxRecDepth 8192

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem part27 (v314 v708) : Seg m K c 79 82 (on (k0_part27 (F := F)) c v314 (part m c (blk 1 3 c) 1) v708) (fun _ => True) := by
  intro Q H
  rw [k0_part27_eq_skeleton]
  unfold on k0_part27_skel
  simp only [Prog.lift, Prog.bind_op, Prog.bind_ret, Prog.pure_eq_ret]
  refine arrive (1, 0, 3) ?_
  refine add0 1 0 3 ?_
  refine pass (1, 0, 4) ?_
  exact done (H _ trivial)

theorem part28 (v53 v708) : Seg m K c 82 85 (on (k0_part28 (F := F)) c v53 (part m c (blk 1 0 c) 1) v708) (fun _ => True) := by
  intro Q H
  rw [k0_part28_eq_skeleton]
  unfold on k0_part28_skel
  simp only [Prog.lift, Prog.bind_op, Prog.bind_ret, Prog.pure_eq_ret]
  refine pass (1, 0, 5) ?_
  refine arrive (1, 0, 0) ?_
  refine add0 1 0 0 ?_
  exact done (H _ trivial)

theorem part29 (v2 v169 v227) : Seg m K c 85 88 (on (k0_part29 (F := F)) v2 v169 v227 (part m c (blk 2 1 c) 2) (part m c (blk 1 2 c) 1)) (fun v => v.2 = k0_pay69 (part m c (blk 2 1 c) 2)) := by
  intro Q H
  rw [k0_part29_eq_skeleton]
  unfold on k0_part29_skel
  simp only [Prog.lift, Prog.bind_op, Prog.bind_ret, Prog.pure_eq_ret]
  refine arrive (1, 0, 2) ?_
  refine add0 1 0 2 ?_
  refine arrive (2, 0, 1) ?_
  exact done (H _ rfl)

theorem part30 (v343 v789) : Seg m K c 88 91 (on (k0_part30 (F := F)) v343 (part m c (blk 2 3 c) 2) v789 (k0_pay69 (part m c (blk 2 1 c) 2))) (fun _ => True) := by
  intro Q H
  rw [k0_part30_eq_skeleton]
  unfold on k0_part30_skel
  simp only [Prog.lift, Prog.bind_op, Prog.bind_ret, Prog.pure_eq_ret]
  refine add0 2 0 1 ?_
  refine arrive (2, 0, 3) ?_
  refine add0 2 0 3 ?_
  exact done (H _ trivial)

theorem part31 (v82 v789 v820) : Seg m K c 91 94 (on (k0_part31 (F := F)) c v82 (part m c (blk 2 0 c) 2) v789 v820) (fun v => v = k0_pay72 (part m c (blk 2 0 c) 2)) := by
  intro Q H
  rw [k0_part31_eq_skeleton]
  unfold on k0_part31_skel
  simp only [Prog.lift, Prog.bind_op, Prog.bind_ret, Prog.pure_eq_ret]
  refine pass (2, 0, 4) ?_
  refine pass (2, 0, 5) ?_
  refine arrive (2, 0, 0) ?_
  exact done (H _ rfl)

theorem part32 (v2 v256) : Seg m K c 94 97 (on (k0_part32 (F := F)) v2 v256 (part m c (blk 2 2 c) 2) (k0_pay72 (part m c (blk 2 0 c) 2))) (fun _ => True) := by
  intro Q H
  rw [k0_part32_eq_skeleton]
  unfold on k0_part32_skel
  simp only [Prog.lift, Prog.bind_op, Prog.bind_ret, Prog.pure_eq_ret]
  refine add0 2 0 0 ?_
  refine arrive (2, 0, 2) ?_
  refine add0 2 0 2 ?_
  exact done (H _ trivial)

theorem part33 (v111 v285) : Seg m K c 97 100 (on (k0_part33 (F := F)) v111 v285 (part m c (blk 0 1 c) 0) (part m c (blk 0 3 c) 0)) (fun v => v = k0_pay76 (part m c (blk 0 3 c) 0) (load0 m c 0 0 3)) := by
  intro Q H
  rw [k0_part33_eq_skeleton]
  unfold on k0_part33_skel
  simp only [Prog.lift, Prog.bind_op, Prog.bind_ret, Prog.pure_eq_ret]
  refine arrive (0, 0, 1) ?_
  refine add0 0 0 1 ?_
  refine arrive (0, 0, 3) ?_
  refine take0 0 0 3 ?_
  exact done (H _ rfl)

theorem part34 (v870) : Seg m K c 100 103 (on (k0_part34 (F := F)) c v870 (k0_pay76 (part m c (blk 0 3 c) 0) (load0 m c 0 0 3))) (fun _ => True) := by
  intro Q H
  rw [k0_part34_eq_skeleton]
  unfold on k0_part34_skel
  simp only [Prog.lift, Prog.bind_op, Prog.bind_ret, Prog.pure_eq_ret]
  refine take0 0 0 3 ?_
  refine store0 0 0 3 ?_
  refine pass (0, 0, 4) ?_
  refine pass (0, 0, 5) ?_
  exact done (H _ trivial)

theorem part35 (v24 v198) : Seg m K c 103 106 (on (k0_part35 (F := F)) v24 v198 (part m c (blk 0 0 c) 0) (part m c (blk 0 2 c) 0)) (fun v => v = k0_pay79 (part m c (blk 0 2 c) 0) (load0 m c 0 0 2)) := by
  intro Q H
  rw [k0_part35_eq_skeleton]
  unfold on k0_part35_skel
  simp only [Prog.lift, Prog.bind_op, Prog.bind_ret, Prog.pure_eq_ret]
  refine arrive (0, 0, 0) ?_
  refine add0 0 0 0 ?_
  refine arrive (0, 0, 2) ?_
  refine take0 0 0 2 ?_
  exact done (H _ rfl)

theorem part36 (v2 v416 v482) : Seg m K c 106 109 (on (k0_part36 (F := F)) v2 v416 v482 (part m c (blk 1 1 c) 1) (k0_pay79 (part m c (blk 0 2 c) 0) (load0 m c 0 0 2))) (fun _ => True) := by
  intro Q H
  rw [k0_part36_eq_skeleton]
  unfold on k0_part36_skel
  simp only [Prog.lift, Prog.bind_op, Prog.bind_ret, Prog.pure_eq_ret]
  refine take0 0 0 2 ?_
  refine store0 0 0 2 ?_
  refine arrive (1, 1, 1) ?_
  refine add0 1 1 1 ?_
  exact done (H _ trivial)

theorem part37 (v951) : Seg m K c 109 112 (on (k0_part37 (F := F)) c (part m c (blk 1 3 c) 1) v951) (fun _ => True) := by
  intro Q H
  rw [k0_part37_eq_skeleton]
  unfold on k0_part37_skel
  simp only [Prog.lift, Prog.bind_op, Prog.bind_ret, Prog.pure_eq_ret]
  refine arrive (1, 1, 3) ?_
  refine add0 1 1 3 ?_
  refine pass (1, 1, 4) ?_
  exact done (H _ trivial)

theorem part38 (v383 v449) : Seg m K c 112 115 (on (k0_part38 (F := F)) c v383 v449 (part m c (blk 1 0 c) 1)) (fun _ => True) := by
  intro Q H
  rw [k0_part38_eq_skeleton]
  unfold on k0_part38_skel
  simp only [Prog.lift, Prog.bind_op, Prog.bind_ret, Prog.pure_eq_ret]
  refine pass (1, 1, 5) ?_
  refine arrive (1, 1, 0) ?_
  refine add0 1 1 0 ?_
  exact done (H _ trivial)

theorem part39 (v2 v427) : Seg m K c 115 118 (on (k0_part39 (F := F)) v2 v427 (part m c (blk 2 1 c) 2) (part m c (blk 1 2 c) 1)) (fun v => v.2.1 = k0_pay85 (part m c (blk 2 1 c) 2) (load0 m c 2 1 1) ∧ v.2.2 = (load0 m c 2 1 1)) := by
  intro Q H
  rw [k0_part39_eq_skeleton]
  unfold on k0_part39_skel
  simp only [Prog.lift, Prog.bind_op, Prog.bind_ret, Prog.pure_eq_ret]
  refine arrive (1, 1, 2) ?_
  refine add0 1 1 2 ?_
  refine arrive (2, 1, 1) ?_
  refine take0 2 1 1 ?_
  refine take0 2 1 1 ?_
  exact done (H _ ⟨rfl, rfl⟩)

theorem part40 (v493 v1032) : Seg m K c 118 121 (on (k0_part40 (F := F)) v493 (part m c (blk 2 3 c) 2) v1032 (k0_pay85 (part m c (blk 2 1 c) 2) (load0 m c 2 1 1)) (load0 m c 2 1 1)) (fun _ => True) := by
  intro Q H
  rw [k0_part40_eq_skeleton]
  unfold on k0_part40_skel
  simp only [Prog.lift, Prog.bind_op, Prog.bind_ret, Prog.pure_eq_ret]
  refine store0 2 1 1 ?_
  refine arrive (2, 1, 3) ?_
  refine add0 2 1 3 ?_
  exact done (H _ trivial)

theorem part41 (v394 v1032) : Seg m K c 121 124 (on (k0_part41 (F := F)) c v394 (part m c (blk 2 0 c) 2) v1032) (fun v => v.1 = k0_pay88 (part m c (blk 2 0 c) 2) (load0 m c 2 1 0) ∧ v.2 = (load0 m c 2 1 0)) := by
  intro Q H
  rw [k0_part41_eq_skeleton]
  unfold on k0_part41_skel
  simp only [Prog.lift, Prog.bind_op, Prog.bind_ret, Prog.pure_eq_ret]
  refine pass (2, 1, 4) ?_
  refine pass (2, 1, 5) ?_
  refine arrive (2, 1, 0) ?_
  refine take0 2 1 0 ?_
  refine take0 2 1 0 ?_
  exact done (H _ ⟨rfl, rfl⟩)

theorem part42 (v2 v405 v460) : Seg m K c 124 127 (on (k0_part42 (F := F)) v2 v405 v460 (part m c (blk 2 2 c) 2) (k0_pay88 (part m c (blk 2 0 c) 2) (load0 m c 2 1 0)) (load0 m c 2 1 0)) (fun _ => True) := by
  intro Q H
  rw [k0_part42_eq_skeleton]
  unfold on k0_part42_skel
  simp only [Prog.lift, Prog.bind_op, Prog.bind_ret, Prog.pure_eq_ret]
  refine store0 2 1 0 ?_
  refine arrive (2, 1, 2) ?_
  refine add0 2 1 2 ?_
  exact done (H _ trivial)

theorem part43 (v471) : Seg m K c 127 131 (on (k0_part43 (F := F)) v471 (part m c (blk 0 1 c) 0) (part m c (blk 0 3 c) 0)) (fun _ => True) := by
  intro Q H
  rw [k0_part43_eq_skeleton]
  unfold on k0_part43_skel
  simp only [Prog.lift, Prog.bind_op, Prog.bind_ret, Prog.pure_eq_ret]
  refine arrive (0, 1, 1) ?_
  refine add0 0 1 1 ?_
  refine arrive (0, 1, 3) ?_
  refine add0 0 1 3 ?_
  exact done (H _ trivial)

theorem part44 (v372 v1113) : Seg m K c 131 133 (on (k0_part44 (F := F)) c v372 v1113) (fun _ => True) := by
  intro Q H
  rw [k0_part44_eq_skeleton]
  unfold on k0_part44_skel
  simp only [Prog.lift, Prog.bind_op, Prog.bind_ret, Prog.pure_eq_ret]
  refine pass (0, 1, 4) ?_
  refine pass (0, 1, 5) ?_
  exact done (H _ trivial)

theorem part45 (v2 v438) : Seg m K c 133 137 (on (k0_part45 (F := F)) v2 v438 (part m c (blk 0 0 c) 0) (part m c (blk 0 2 c) 0)) (fun _ => True) := by
  intro Q H
  rw [k0_part45_eq_skeleton]
  unfold on k0_part45_skel
  simp only [Prog.lift, Prog.bind_op, Prog.bind_ret, Prog.pure_eq_ret]
  refine arrive (0, 1, 0) ?_
  refine add0 0 1 0 ?_
  refine arrive (0, 1, 2) ?_
  refine add0 0 1 2 ?_
  exact done (H _ trivial)

theorem part46 (v548 v614) : Seg m K c 137 140 (on (k0_part46 (F := F)) v548 v614 (part m c (blk 1 1 c) 1) (part m c (blk 1 3 c) 1)) (fun v => v = k0_pay96 (part m c (blk 1 3 c) 1)) := by
  intro Q H
  rw [k0_part46_eq_skeleton]
  unfold on k0_part46_skel
  simp only [Prog.lift, Prog.bind_op, Prog.bind_ret, Prog.pure_eq_ret]
  refine arrive (1, 2, 1) ?_
  refine add0 1 2 1 ?_
  refine arrive (1, 2, 3) ?_
  exact done (H _ rfl)

theorem part47 (v1194) : Seg m K c 140 143 (on (k0_part47 (F := F)) c v1194 (k0_pay96 (part m c (blk 1 3 c) 1))) (fun _ => True) := by
  intro Q H
  rw [k0_part47_eq_skeleton]
  unfold on k0_part47_skel
  simp only [Prog.lift, Prog.bind_op, Prog.bind_ret, Prog.pure_eq_ret]
  refine add0 1 2 3 ?_
  refine pass (1, 2, 4) ?_
  refine pass (1, 2, 5) ?_
  exact done (H _ trivial)

theorem part48 (v515 v581) : Seg m K c 143 146 (on (k0_part48 (F := F)) v515 v581 (part m c (blk 1 0 c) 1) (part m c (blk 1 2 c) 1)) (fun v => v = k0_pay99 (part m c (blk 1 2 c) 1)) := by
  intro Q H
  rw [k0_part48_eq_skeleton]
  unfold on k0_part48_skel
  simp only [Prog.lift, Prog.bind_op, Prog.bind_ret, Prog.pure_eq_ret]
  refine arrive (1, 2, 0) ?_
  refine add0 1 2 0 ?_
  refine arrive (1, 2, 2) ?_
  exact done (H _ rfl)

theorem part49 (v2 v559 v625) : Seg m K c 146 149 (on (k0_part49 (F := F)) v2 v559 v625 (part m c (blk 2 1 c) 2) (k0_pay99 (part m c (blk 1 2 c) 1))) (fun _ => True) := by
  intro Q H
  rw [k0_part49_eq_skeleton]
  unfold on k0_part49_skel
  simp only [Prog.lift, Prog.bind_op, Prog.bind_ret, Prog.pure_eq_ret]
  refine add0 1 2 2 ?_
  refine arrive (2, 2, 1) ?_
  refine add0 2 2 1 ?_
  exact done (H _ trivial)

theorem part50 (v1275 v1291 c0_i32_1438) : Seg m K c 149 152 (on (k0_part50 (F := F)) c (part m c (blk 2 3 c) 2) v1275 v1291 c0_i32_1438) (fun _ => True) := by
  intro Q H
  rw [k0_part50_eq_skeleton]
  unfold on k0_part50_skel
  simp only [Prog.lift, Prog.bind_op, Prog.bind_ret, Prog.pure_eq_ret]
  refine arrive (2, 2, 3) ?_
  refine add0 2 2 3 ?_
  refine pass (2, 2, 4) ?_
  exact done (H _ trivial)

theorem part51 (v526 v592 v1316 c0_i32_1468) : Seg m K c 152 155 (on (k0_part51 (F := F)) c v526 v592 (part m c (blk 2 0 c) 2) v1316 c0_i32_1468) (fun _ => True) := by
  intro Q H
  rw [k0_part51_eq_skeleton]
  unfold on k0_part51_skel
  simp only [Prog.lift, Prog.bind_op, Prog.bind_ret, Prog.pure_eq_ret]
  refine pass (2, 2, 5) ?_
  refine arrive (2, 2, 0) ?_
  refine add0 2 2 0 ?_
  exact done (H _ trivial)

theorem part52 (v2 v537 v1341 c0_i32_1500) : Seg m K c 155 158 (on (k0_part52 (F := F)) v2 v537 (part m c (blk 0 1 c) 0) (part m c (blk 2 2 c) 2) v1341 c0_i32_1500) (fun v => v.2 = k0_pay105 (part m c (blk 0 1 c) 0) (load0 m c 0 2 1)) := by
  intro Q H
  rw [k0_part52_eq_skeleton]
  unfold on k0_part52_skel
  simp only [Prog.lift, Prog.bind_op, Prog.bind_ret, Prog.pure_eq_ret]
  refine arrive (2, 2, 2) ?_
  refine add0 2 2 2 ?_
  refine arrive (0, 2, 1) ?_
  refine take0 0 2 1 ?_
  exact done (H _ rfl)

theorem part53 (v603 v1356) : Seg m K c 158 161 (on (k0_part53 (F := F)) v603 (part m c (blk 0 3 c) 0) v1356 (k0_pay105 (part m c (blk 0 1 c) 0) (load0 m c 0 2 1))) (fun _ => True) := by
  intro Q H
  rw [k0_part53_eq_skeleton]
  unfold on k0_part53_skel
  simp only [Prog.lift, Prog.bind_op, Prog.bind_ret, Prog.pure_eq_ret]
  refine take0 0 2 1 ?_
  refine store0 0 2 1 ?_
  refine arrive (0, 2, 3) ?_
  refine add0 0 2 3 ?_
  exact done (H _ trivial)

theorem part54 (v504 v1356) : Seg m K c 161 164 (on (k0_part54 (F := F)) c v504 (part m c (blk 0 0 c) 0) v1356) (fun v => v = k0_pay108 (part m c (blk 0 0 c) 0) (load0 m c 0 2 0)) := by
  intro Q H
  rw [k0_part54_eq_skeleton]
  unfold on k0_part54_skel
  simp only [Prog.lift, Prog.bind_op, Prog.bind_ret, Prog.pure_eq_ret]
  refine pass (0, 2, 4) ?_
  refine pass (0, 2, 5) ?_
  refine arrive (0, 2, 0) ?_
  refine take0 0 2 0 ?_
  exact done (H _ rfl)

theorem part55 (v2 v570 v708) : Seg m K c 164 167 (on (k0_part55 (F := F)) v2 v570 (part m c (blk 0 2 c) 0) v708 (k0_pay108 (part m c (blk 0 0 c) 0) (load0 m c 0 2 0))) (fun _ => True) := by
  intro Q H
  rw [k0_part55_eq_skeleton]
  unfold on k0_part55_skel
  simp only [Prog.lift, Prog.bind_op, Prog.bind_ret, Prog.pure_eq_ret]
  refine take0 0 2 0 ?_
  refine store0 0 2 0 ?_
  refine arrive (0, 2, 2) ?_
  refine add0 0 2 2 ?_
  exact done (H _ trivial)

end Cert.RS

end
-- ==== Proof.Parts3.lean ====
/-
The printed body piece by piece: the additions of the second exchange, the third messages and the result.
-/
module

public import proofs.«01_k».proof.Proof.Seg

@[expose] public section

set_option maxRecDepth 8192

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem part56 (v2 v789 v1437) : Seg m K c 167 170 (on (k0_part56 (F := F)) c v2 v789 v1437) (fun _ => True) := by
  intro Q H
  rw [k0_part56_eq_skeleton]
  unfold on k0_part56_skel
  simp only [Prog.lift, Prog.bind_op, Prog.bind_ret, Prog.pure_eq_ret]
  refine arrive (1, 0, 5) ?_
  refine takeSum 1 0 2 ?_
  refine take1 1 0 1 ?_
  refine take1 1 0 1 ?_
  refine store1 1 0 ?_
  refine pass (1, 0, 6) ?_
  exact done (H _ trivial)

theorem part57 (v2 v1464 v1465) : Seg m K c 170 173 (on (k0_part57 (F := F)) c v2 v1464 v1465) (fun _ => True) := by
  intro Q H
  rw [k0_part57_eq_skeleton]
  unfold on k0_part57_skel
  simp only [Prog.lift, Prog.bind_op, Prog.bind_ret, Prog.pure_eq_ret]
  refine arrive (2, 0, 5) ?_
  refine takeSum 2 0 2 ?_
  refine take1 2 0 1 ?_
  refine take1 2 0 1 ?_
  refine store1 2 0 ?_
  refine pass (2, 0, 6) ?_
  exact done (H _ trivial)

theorem part58 (v870 v1491) : Seg m K c 173 175 (on (k0_part58 (F := F)) v870 v1491) (fun _ => True) := by
  intro Q H
  rw [k0_part58_eq_skeleton]
  unfold on k0_part58_skel
  simp only [Prog.lift, Prog.bind_op, Prog.bind_ret, Prog.pure_eq_ret]
  refine arrive (0, 0, 5) ?_
  refine takeSum 0 0 2 ?_
  refine take1 0 0 1 ?_
  refine take1 0 0 1 ?_
  refine store1 0 0 ?_
  exact done (H _ trivial)

theorem part59 (v2 v951) : Seg m K c 175 178 (on (k0_part59 (F := F)) c v2 v951) (fun _ => True) := by
  intro Q H
  rw [k0_part59_eq_skeleton]
  unfold on k0_part59_skel
  simp only [Prog.lift, Prog.bind_op, Prog.bind_ret, Prog.pure_eq_ret]
  refine pass (0, 0, 6) ?_
  refine arrive (1, 1, 5) ?_
  refine takeSum 1 1 2 ?_
  refine take1 1 1 1 ?_
  refine take1 1 1 1 ?_
  refine store1 1 1 ?_
  exact done (H _ trivial)

theorem part60 (v2 v1032) : Seg m K c 178 181 (on (k0_part60 (F := F)) c v2 v1032) (fun _ => True) := by
  intro Q H
  rw [k0_part60_eq_skeleton]
  unfold on k0_part60_skel
  simp only [Prog.lift, Prog.bind_op, Prog.bind_ret, Prog.pure_eq_ret]
  refine pass (1, 1, 6) ?_
  refine arrive (2, 1, 5) ?_
  refine takeSum 2 1 2 ?_
  refine take1 2 1 1 ?_
  refine take1 2 1 1 ?_
  refine store1 2 1 ?_
  exact done (H _ trivial)

theorem part61 (v2 v1113 v1562 c0_i32_1786) : Seg m K c 181 184 (on (k0_part61 (F := F)) c v2 v1113 v1562 c0_i32_1786) (fun _ => True) := by
  intro Q H
  rw [k0_part61_eq_skeleton]
  unfold on k0_part61_skel
  simp only [Prog.lift, Prog.bind_op, Prog.bind_ret, Prog.pure_eq_ret]
  refine pass (2, 1, 6) ?_
  refine arrive (0, 1, 5) ?_
  refine takeSum 0 1 2 ?_
  refine take1 0 1 1 ?_
  refine take1 0 1 1 ?_
  refine store1 0 1 ?_
  exact done (H _ trivial)

theorem part62 (v2 v1194 v1572) : Seg m K c 184 186 (on (k0_part62 (F := F)) c v2 v1194 v1572) (fun v => v.2 = k0_pay117 (loadSum m c 1 2 2) (load1 m c 1 2 1)) := by
  intro Q H
  rw [k0_part62_eq_skeleton]
  unfold on k0_part62_skel
  simp only [Prog.lift, Prog.bind_op, Prog.bind_ret, Prog.pure_eq_ret]
  refine pass (0, 1, 6) ?_
  refine arrive (1, 2, 5) ?_
  refine takeSum 1 2 2 ?_
  refine take1 1 2 1 ?_
  exact done (H _ rfl)

theorem part63 (v2 v1275 v1599) : Seg m K c 186 189 (on (k0_part63 (F := F)) c v2 v1275 v1599 (k0_pay117 (loadSum m c 1 2 2) (load1 m c 1 2 1))) (fun v => v.2.1 = k0_pay119 (loadSum m c 2 2 2) ∧ v.2.2 = (load1 m c 2 2 1)) := by
  intro Q H
  rw [k0_part63_eq_skeleton]
  unfold on k0_part63_skel
  simp only [Prog.lift, Prog.bind_op, Prog.bind_ret, Prog.pure_eq_ret]
  refine take1 1 2 1 ?_
  refine store1 1 2 ?_
  refine pass (1, 2, 6) ?_
  refine arrive (2, 2, 5) ?_
  refine takeSum 2 2 2 ?_
  refine take1 2 2 1 ?_
  exact done (H _ ⟨rfl, rfl⟩)

theorem part64 (v2 v1356 v1626) : Seg m K c 189 192 (on (k0_part64 (F := F)) c v2 v1356 v1626 (k0_pay119 (loadSum m c 2 2 2)) (load1 m c 2 2 1)) (fun v => v.2 = (loadSum m c 0 2 2)) := by
  intro Q H
  rw [k0_part64_eq_skeleton]
  unfold on k0_part64_skel
  simp only [Prog.lift, Prog.bind_op, Prog.bind_ret, Prog.pure_eq_ret]
  refine take1 2 2 1 ?_
  refine store1 2 2 ?_
  refine pass (2, 2, 6) ?_
  refine arrive (0, 2, 5) ?_
  refine takeSum 0 2 2 ?_
  exact done (H _ rfl)

theorem part65 (v708 v1653) : Seg m K c 192 195 (on (k0_part65 (F := F)) c v708 v1653 (loadSum m c 0 2 2)) (fun _ => True) := by
  intro Q H
  rw [k0_part65_eq_skeleton]
  unfold on k0_part65_skel
  simp only [Prog.lift, Prog.bind_op, Prog.bind_ret, Prog.pure_eq_ret]
  refine take1 0 2 1 ?_
  refine take1 0 2 1 ?_
  refine store1 0 2 ?_
  refine pass (0, 2, 6) ?_
  refine arrive (1, 0, 4) ?_
  exact done (H _ trivial)

theorem part66 (v1437) : Seg m K c 195 197 (on (k0_part66 (F := F)) v1437) (fun _ => True) := by
  intro Q H
  rw [k0_part66_eq_skeleton]
  unfold on k0_part66_skel
  simp only [Prog.lift, Prog.bind_op, Prog.bind_ret, Prog.pure_eq_ret]
  refine arrive (1, 0, 6) ?_
  refine takeSum 1 0 0 ?_
  refine take1 1 0 0 ?_
  refine take2 1 0 ?_
  refine put2 1 0 ?_
  exact done (H _ trivial)

theorem part67 (v789 v1464) : Seg m K c 197 199 (on (k0_part67 (F := F)) v789 v1464) (fun v => v.1 = k0_pay123 (loadSum m c 2 0 0) (load1 m c 2 0 0) ∧ v.2 = k0_pay124 (load2 m c 2 0)) := by
  intro Q H
  rw [k0_part67_eq_skeleton]
  unfold on k0_part67_skel
  simp only [Prog.lift, Prog.bind_op, Prog.bind_ret, Prog.pure_eq_ret]
  refine arrive (2, 0, 4) ?_
  refine arrive (2, 0, 6) ?_
  refine takeSum 2 0 0 ?_
  refine take1 2 0 0 ?_
  refine take2 2 0 ?_
  exact done (H _ ⟨rfl, rfl⟩)

theorem part68 (v870 v1491) : Seg m K c 199 201 (on (k0_part68 (F := F)) v870 v1491 (k0_pay123 (loadSum m c 2 0 0) (load1 m c 2 0 0)) (k0_pay124 (load2 m c 2 0))) (fun _ => True) := by
  intro Q H
  rw [k0_part68_eq_skeleton]
  unfold on k0_part68_skel
  simp only [Prog.lift, Prog.bind_op, Prog.bind_ret, Prog.pure_eq_ret]
  refine put2 2 0 ?_
  refine arrive (0, 0, 4) ?_
  exact done (H _ trivial)

theorem part69 (v951) : Seg m K c 201 203 (on (k0_part69 (F := F)) v951) (fun _ => True) := by
  intro Q H
  rw [k0_part69_eq_skeleton]
  unfold on k0_part69_skel
  simp only [Prog.lift, Prog.bind_op, Prog.bind_ret, Prog.pure_eq_ret]
  refine arrive (0, 0, 6) ?_
  refine takeSum 0 0 0 ?_
  refine take1 0 0 0 ?_
  refine take2 0 0 ?_
  refine put2 0 0 ?_
  exact done (H _ trivial)

theorem part70 (v1518) : Seg m K c 203 205 (on (k0_part70 (F := F)) v1518) (fun v => v = k0_pay127 (loadSum m c 1 1 0) (load1 m c 1 1 0) (load2 m c 1 1)) := by
  intro Q H
  rw [k0_part70_eq_skeleton]
  unfold on k0_part70_skel
  simp only [Prog.lift, Prog.bind_op, Prog.bind_ret, Prog.pure_eq_ret]
  refine arrive (1, 1, 4) ?_
  refine arrive (1, 1, 6) ?_
  refine takeSum 1 1 0 ?_
  refine take1 1 1 0 ?_
  refine take2 1 1 ?_
  exact done (H _ rfl)

theorem part71 (v1032 v1545) : Seg m K c 205 208 (on (k0_part71 (F := F)) v1032 v1545 (k0_pay127 (loadSum m c 1 1 0) (load1 m c 1 1 0) (load2 m c 1 1))) (fun v => v = k0_pay128 (loadSum m c 2 1 0) (load1 m c 2 1 0)) := by
  intro Q H
  rw [k0_part71_eq_skeleton]
  unfold on k0_part71_skel
  simp only [Prog.lift, Prog.bind_op, Prog.bind_ret, Prog.pure_eq_ret]
  refine put2 1 1 ?_
  refine arrive (2, 1, 4) ?_
  refine arrive (2, 1, 6) ?_
  refine takeSum 2 1 0 ?_
  refine take1 2 1 0 ?_
  exact done (H _ rfl)

theorem part72 (v1113 v1572) : Seg m K c 208 210 (on (k0_part72 (F := F)) v1113 v1572 (k0_pay128 (loadSum m c 2 1 0) (load1 m c 2 1 0))) (fun _ => True) := by
  intro Q H
  rw [k0_part72_eq_skeleton]
  unfold on k0_part72_skel
  simp only [Prog.lift, Prog.bind_op, Prog.bind_ret, Prog.pure_eq_ret]
  refine take2 2 1 ?_
  refine put2 2 1 ?_
  refine arrive (0, 1, 4) ?_
  exact done (H _ trivial)

theorem part73 (v1194) : Seg m K c 210 212 (on (k0_part73 (F := F)) v1194) (fun _ => True) := by
  intro Q H
  rw [k0_part73_eq_skeleton]
  unfold on k0_part73_skel
  simp only [Prog.lift, Prog.bind_op, Prog.bind_ret, Prog.pure_eq_ret]
  refine arrive (0, 1, 6) ?_
  refine takeSum 0 1 0 ?_
  refine take1 0 1 0 ?_
  refine take2 0 1 ?_
  refine put2 0 1 ?_
  exact done (H _ trivial)

theorem part74 (v1599) : Seg m K c 212 214 (on (k0_part74 (F := F)) v1599) (fun v => v.1 = k0_pay131 (loadSum m c 1 2 0) (load1 m c 1 2 0) (load2 m c 1 2) ∧ v.2 = k0_pay132 (loadSum m c 1 2 0) (load1 m c 1 2 0) (load2 m c 1 2)) := by
  intro Q H
  rw [k0_part74_eq_skeleton]
  unfold on k0_part74_skel
  simp only [Prog.lift, Prog.bind_op, Prog.bind_ret, Prog.pure_eq_ret]
  refine arrive (1, 2, 4) ?_
  refine arrive (1, 2, 6) ?_
  refine takeSum 1 2 0 ?_
  refine take1 1 2 0 ?_
  refine take2 1 2 ?_
  exact done (H _ ⟨rfl, rfl⟩)

theorem part75 (v1275 v1626) : Seg m K c 214 217 (on (k0_part75 (F := F)) v1275 v1626 (k0_pay131 (loadSum m c 1 2 0) (load1 m c 1 2 0) (load2 m c 1 2)) (k0_pay132 (loadSum m c 1 2 0) (load1 m c 1 2 0) (load2 m c 1 2))) (fun v => v.1 = k0_pay134 (loadSum m c 2 2 0) ∧ v.2 = k0_pay135 (load1 m c 2 2 0)) := by
  intro Q H
  rw [k0_part75_eq_skeleton]
  unfold on k0_part75_skel
  simp only [Prog.lift, Prog.bind_op, Prog.bind_ret, Prog.pure_eq_ret]
  refine put2 1 2 ?_
  refine arrive (2, 2, 4) ?_
  refine arrive (2, 2, 6) ?_
  refine takeSum 2 2 0 ?_
  refine take1 2 2 0 ?_
  exact done (H _ ⟨rfl, rfl⟩)

theorem part76 (v1356 v1653) : Seg m K c 217 219 (on (k0_part76 (F := F)) v1356 v1653 (k0_pay134 (loadSum m c 2 2 0)) (k0_pay135 (load1 m c 2 2 0))) (fun _ => True) := by
  intro Q H
  rw [k0_part76_eq_skeleton]
  unfold on k0_part76_skel
  simp only [Prog.lift, Prog.bind_op, Prog.bind_ret, Prog.pure_eq_ret]
  refine take2 2 2 ?_
  refine put2 2 2 ?_
  refine arrive (0, 2, 4) ?_
  exact done (H _ trivial)

theorem part77 : Seg m K c 219 221 (on (k0_part77 (F := F))) (fun _ => True) := by
  intro Q H
  rw [k0_part77_eq_skeleton]
  unfold on k0_part77_skel
  simp only [Prog.lift, Prog.bind_op, Prog.bind_ret, Prog.pure_eq_ret]
  refine arrive (0, 2, 6) ?_
  refine takeSum 0 2 0 ?_
  refine take1 0 2 0 ?_
  refine take2 0 2 ?_
  refine put2 0 2 ?_
  exact done (H _ trivial)

end Cert.RS

end
-- ==== Proof.Parts4.lean ====
/-
The printed body piece by piece: the ends of the sendings.
-/
module

public import proofs.«01_k».proof.Proof.Seg

@[expose] public section

set_option maxRecDepth 8192

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem part78 : Seg m K c 221 225 (on (k0_part78 (F := F))) (fun _ => True) := by
  intro Q H
  rw [k0_part78_eq_skeleton]
  unfold on k0_part78_skel
  simp only [Prog.lift, Prog.bind_op, Prog.bind_ret, Prog.pure_eq_ret]
  refine leave (0, 0, 0) ?_
  refine leave (1, 0, 0) ?_
  refine leave (2, 0, 0) ?_
  refine leave (0, 0, 1) ?_
  exact done (H _ trivial)

theorem part79 : Seg m K c 225 228 (on (k0_part79 (F := F))) (fun _ => True) := by
  intro Q H
  rw [k0_part79_eq_skeleton]
  unfold on k0_part79_skel
  simp only [Prog.lift, Prog.bind_op, Prog.bind_ret, Prog.pure_eq_ret]
  refine leave (1, 0, 1) ?_
  refine leave (2, 0, 1) ?_
  refine leave (0, 0, 2) ?_
  exact done (H _ trivial)

theorem part80 : Seg m K c 228 231 (on (k0_part80 (F := F))) (fun _ => True) := by
  intro Q H
  rw [k0_part80_eq_skeleton]
  unfold on k0_part80_skel
  simp only [Prog.lift, Prog.bind_op, Prog.bind_ret, Prog.pure_eq_ret]
  refine leave (1, 0, 2) ?_
  refine leave (2, 0, 2) ?_
  refine leave (0, 0, 3) ?_
  exact done (H _ trivial)

theorem part81 : Seg m K c 231 235 (on (k0_part81 (F := F))) (fun _ => True) := by
  intro Q H
  rw [k0_part81_eq_skeleton]
  unfold on k0_part81_skel
  simp only [Prog.lift, Prog.bind_op, Prog.bind_ret, Prog.pure_eq_ret]
  refine leave (1, 0, 3) ?_
  refine leave (2, 0, 3) ?_
  refine leave (0, 1, 0) ?_
  refine leave (1, 1, 0) ?_
  exact done (H _ trivial)

theorem part82 : Seg m K c 235 238 (on (k0_part82 (F := F))) (fun _ => True) := by
  intro Q H
  rw [k0_part82_eq_skeleton]
  unfold on k0_part82_skel
  simp only [Prog.lift, Prog.bind_op, Prog.bind_ret, Prog.pure_eq_ret]
  refine leave (2, 1, 0) ?_
  refine leave (0, 1, 1) ?_
  refine leave (1, 1, 1) ?_
  exact done (H _ trivial)

theorem part83 : Seg m K c 238 241 (on (k0_part83 (F := F))) (fun _ => True) := by
  intro Q H
  rw [k0_part83_eq_skeleton]
  unfold on k0_part83_skel
  simp only [Prog.lift, Prog.bind_op, Prog.bind_ret, Prog.pure_eq_ret]
  refine leave (2, 1, 1) ?_
  refine leave (0, 1, 2) ?_
  refine leave (1, 1, 2) ?_
  exact done (H _ trivial)

theorem part84 : Seg m K c 241 245 (on (k0_part84 (F := F))) (fun _ => True) := by
  intro Q H
  rw [k0_part84_eq_skeleton]
  unfold on k0_part84_skel
  simp only [Prog.lift, Prog.bind_op, Prog.bind_ret, Prog.pure_eq_ret]
  refine leave (2, 1, 2) ?_
  refine leave (0, 1, 3) ?_
  refine leave (1, 1, 3) ?_
  refine leave (2, 1, 3) ?_
  exact done (H _ trivial)

theorem part85 : Seg m K c 245 248 (on (k0_part85 (F := F))) (fun _ => True) := by
  intro Q H
  rw [k0_part85_eq_skeleton]
  unfold on k0_part85_skel
  simp only [Prog.lift, Prog.bind_op, Prog.bind_ret, Prog.pure_eq_ret]
  refine leave (0, 2, 0) ?_
  refine leave (1, 2, 0) ?_
  refine leave (2, 2, 0) ?_
  exact done (H _ trivial)

theorem part86 : Seg m K c 248 251 (on (k0_part86 (F := F))) (fun _ => True) := by
  intro Q H
  rw [k0_part86_eq_skeleton]
  unfold on k0_part86_skel
  simp only [Prog.lift, Prog.bind_op, Prog.bind_ret, Prog.pure_eq_ret]
  refine leave (0, 2, 1) ?_
  refine leave (1, 2, 1) ?_
  refine leave (2, 2, 1) ?_
  exact done (H _ trivial)

theorem part87 : Seg m K c 251 255 (on (k0_part87 (F := F))) (fun _ => True) := by
  intro Q H
  rw [k0_part87_eq_skeleton]
  unfold on k0_part87_skel
  simp only [Prog.lift, Prog.bind_op, Prog.bind_ret, Prog.pure_eq_ret]
  refine leave (0, 2, 2) ?_
  refine leave (1, 2, 2) ?_
  refine leave (2, 2, 2) ?_
  refine leave (0, 2, 3) ?_
  exact done (H _ trivial)

theorem part88 : Seg m K c 255 258 (on (k0_part88 (F := F))) (fun _ => True) := by
  intro Q H
  rw [k0_part88_eq_skeleton]
  unfold on k0_part88_skel
  simp only [Prog.lift, Prog.bind_op, Prog.bind_ret, Prog.pure_eq_ret]
  refine leave (1, 2, 3) ?_
  refine leave (2, 2, 3) ?_
  refine leave (1, 0, 4) ?_
  exact done (H _ trivial)

theorem part89 : Seg m K c 258 261 (on (k0_part89 (F := F))) (fun _ => True) := by
  intro Q H
  rw [k0_part89_eq_skeleton]
  unfold on k0_part89_skel
  simp only [Prog.lift, Prog.bind_op, Prog.bind_ret, Prog.pure_eq_ret]
  refine leave (1, 0, 5) ?_
  refine leave (2, 0, 4) ?_
  refine leave (2, 0, 5) ?_
  exact done (H _ trivial)

theorem part90 : Seg m K c 261 265 (on (k0_part90 (F := F))) (fun _ => True) := by
  intro Q H
  rw [k0_part90_eq_skeleton]
  unfold on k0_part90_skel
  simp only [Prog.lift, Prog.bind_op, Prog.bind_ret, Prog.pure_eq_ret]
  refine leave (0, 0, 4) ?_
  refine leave (0, 0, 5) ?_
  refine leave (1, 1, 4) ?_
  refine leave (1, 1, 5) ?_
  exact done (H _ trivial)

theorem part91 : Seg m K c 265 268 (on (k0_part91 (F := F))) (fun _ => True) := by
  intro Q H
  rw [k0_part91_eq_skeleton]
  unfold on k0_part91_skel
  simp only [Prog.lift, Prog.bind_op, Prog.bind_ret, Prog.pure_eq_ret]
  refine leave (2, 1, 4) ?_
  refine leave (2, 1, 5) ?_
  refine leave (0, 1, 4) ?_
  exact done (H _ trivial)

theorem part92 : Seg m K c 268 271 (on (k0_part92 (F := F))) (fun _ => True) := by
  intro Q H
  rw [k0_part92_eq_skeleton]
  unfold on k0_part92_skel
  simp only [Prog.lift, Prog.bind_op, Prog.bind_ret, Prog.pure_eq_ret]
  refine leave (0, 1, 5) ?_
  refine leave (1, 2, 4) ?_
  refine leave (1, 2, 5) ?_
  exact done (H _ trivial)

theorem part93 : Seg m K c 271 275 (on (k0_part93 (F := F))) (fun _ => True) := by
  intro Q H
  rw [k0_part93_eq_skeleton]
  unfold on k0_part93_skel
  simp only [Prog.lift, Prog.bind_op, Prog.bind_ret, Prog.pure_eq_ret]
  refine leave (2, 2, 4) ?_
  refine leave (2, 2, 5) ?_
  refine leave (0, 2, 4) ?_
  refine leave (0, 2, 5) ?_
  exact done (H _ trivial)

theorem part94 : Seg m K c 275 278 (on (k0_part94 (F := F))) (fun _ => True) := by
  intro Q H
  rw [k0_part94_eq_skeleton]
  unfold on k0_part94_skel
  simp only [Prog.lift, Prog.bind_op, Prog.bind_ret, Prog.pure_eq_ret]
  refine leave (1, 0, 6) ?_
  refine leave (2, 0, 6) ?_
  refine leave (0, 0, 6) ?_
  exact done (H _ trivial)

theorem part95 : Seg m K c 278 282 (on (k0_part95 (F := F))) (fun _ => True) := by
  intro Q H
  rw [k0_part95_eq_skeleton]
  unfold on k0_part95_skel
  simp only [Prog.lift, Prog.bind_op, Prog.bind_ret, Prog.pure_eq_ret]
  refine leave (1, 1, 6) ?_
  refine leave (2, 1, 6) ?_
  refine leave (0, 1, 6) ?_
  refine leave (1, 2, 6) ?_
  exact done (H _ trivial)

end Cert.RS

end
-- ==== Proof.Body.lean ====
/-
The whole body on one device: the pieces one after another, from the state before all events to the state after all.
-/
module

public import proofs.«01_k».proof.Proof.Parts1
public import proofs.«01_k».proof.Proof.Parts2
public import proofs.«01_k».proof.Proof.Parts3
public import proofs.«01_k».proof.Proof.Parts4

@[expose] public section

set_option maxRecDepth 8192

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem part96 : Seg m K c 0 181 (on (k0_part96 (F := F))) (fun v => v.1 = c) := by
  rw [k0_part96_eq_skeleton]
  unfold on k0_part96_skel
  refine Seg.bind (part1 m K _) ?_; rintro ⟨d0, v2, v3, v19, v21, v23, v24⟩ h
  dsimp only at h; obtain ⟨rfl, rfl, rfl, rfl, rfl⟩ := h
  refine Seg.bind (part2 m K _ _ _) ?_; rintro v53 -
  refine Seg.bind (part3 m K _ _) ?_; rintro _ -
  refine Seg.bind (part4 m K _ _) ?_; rintro v82 -
  refine Seg.bind (part5 m K _ _) ?_; rintro v111 -
  refine Seg.bind (part6 m K _ _) ?_; rintro v140 -
  refine Seg.bind (part7 m K _ _) ?_; rintro v169 -
  refine Seg.bind (part8 m K _ _) ?_; rintro v198 -
  refine Seg.bind (part9 m K _ _) ?_; rintro v227 -
  refine Seg.bind (part10 m K _ _) ?_; rintro ⟨v256, v275, c0_i32_262⟩ -
  refine Seg.bind (part11 m K _ _ _ _) ?_; rintro ⟨v285, c1_i32_288⟩ -
  refine Seg.bind (part12 m K _ _ _ _) ?_; rintro v314 -
  refine Seg.bind (part13 m K _ _ _) ?_; rintro v343 -
  refine Seg.bind (part14 m K _ _ _) ?_; rintro ⟨v372, v383⟩ -
  refine Seg.bind (part15 m K _ _) ?_; rintro ⟨v394, v405⟩ -
  refine Seg.bind (part16 m K _ _) ?_; rintro ⟨v416, v427, v438, v439⟩ -
  refine Seg.bind (part17 m K _ _ _) ?_; rintro ⟨v449, v460⟩ -
  refine Seg.bind (part18 m K _ _) ?_; rintro ⟨v471, v482, v493⟩ -
  refine Seg.bind (part19 m K _ _ _) ?_; rintro ⟨v504, v515⟩ -
  refine Seg.bind (part20 m K _ _) ?_; rintro ⟨v526, v537⟩ -
  refine Seg.bind (part21 m K _ _) ?_; rintro ⟨v548, v559, v570, v571⟩ -
  refine Seg.bind (part22 m K _ _ _) ?_; rintro ⟨v581, v592⟩ -
  refine Seg.bind (part23 m K _ _) ?_; rintro ⟨v603, v614, v625⟩ -
  refine Seg.bind (part24 m K _ _ _) ?_; rintro ⟨v641, v647, v653, v659⟩ h
  dsimp only at h; obtain ⟨rfl, rfl, rfl, rfl⟩ := h
  refine Seg.bind (part25 m K _ _) ?_; rintro ⟨v665, v671, v677, v683, v689, v695⟩ h
  dsimp only at h; obtain ⟨rfl, rfl, rfl, rfl, rfl, rfl⟩ := h
  refine Seg.bind (part26 m K _ _ _) ?_; rintro ⟨v701, v707, v708⟩ h
  dsimp only at h; obtain ⟨rfl, rfl⟩ := h
  refine Seg.bind (part27 m K _ _ _) ?_; rintro _ -
  refine Seg.bind (part28 m K _ _ _) ?_; rintro _ -
  refine Seg.bind (part29 m K _ _ _ _) ?_; rintro ⟨v789, v798⟩ h
  dsimp only at h; subst h
  refine Seg.bind (part30 m K _ _ _) ?_; rintro v820 -
  refine Seg.bind (part31 m K _ _ _ _) ?_; rintro v848 h; subst h
  refine Seg.bind (part32 m K _ _ _) ?_; rintro v870 -
  refine Seg.bind (part33 m K _ _ _) ?_; rintro v897 h; subst h
  refine Seg.bind (part34 m K _ _) ?_; rintro _ -
  refine Seg.bind (part35 m K _ _ _) ?_; rintro v947 h; subst h
  refine Seg.bind (part36 m K _ _ _ _) ?_; rintro v951 -
  refine Seg.bind (part37 m K _ _) ?_; rintro _ -
  refine Seg.bind (part38 m K _ _ _) ?_; rintro _ -
  refine Seg.bind (part39 m K _ _ _) ?_; rintro ⟨v1032, v1044, v1045⟩ h
  dsimp only at h; obtain ⟨rfl, rfl⟩ := h
  refine Seg.bind (part40 m K _ _ _) ?_; rintro _ -
  refine Seg.bind (part41 m K _ _ _) ?_; rintro ⟨v1094, v1095⟩ h
  dsimp only at h; obtain ⟨rfl, rfl⟩ := h
  refine Seg.bind (part42 m K _ _ _ _) ?_; rintro v1113 -
  refine Seg.bind (part43 m K _ _) ?_; rintro _ -
  refine Seg.bind (part44 m K _ _ _) ?_; rintro _ -
  refine Seg.bind (part45 m K _ _ _) ?_; rintro v1194 -
  refine Seg.bind (part46 m K _ _ _) ?_; rintro v1218 h; subst h
  refine Seg.bind (part47 m K _ _) ?_; rintro _ -
  refine Seg.bind (part48 m K _ _ _) ?_; rintro v1268 h; subst h
  refine Seg.bind (part49 m K _ _ _ _) ?_; rintro ⟨v1275, v1291, c0_i32_1438⟩ -
  refine Seg.bind (part50 m K _ _ _ _) ?_; rintro ⟨v1316, c0_i32_1468⟩ -
  refine Seg.bind (part51 m K _ _ _ _ _) ?_; rintro ⟨v1341, c0_i32_1500⟩ -
  refine Seg.bind (part52 m K _ _ _ _ _) ?_; rintro ⟨v1356, v1368⟩ h
  dsimp only at h; subst h
  refine Seg.bind (part53 m K _ _ _) ?_; rintro _ -
  refine Seg.bind (part54 m K _ _ _) ?_; rintro v1418 h; subst h
  refine Seg.bind (part55 m K _ _ _ _) ?_; rintro v1437 -
  refine Seg.bind (part56 m K _ _ _ _) ?_; rintro ⟨v1464, v1465⟩ -
  refine Seg.bind (part57 m K _ _ _ _) ?_; rintro v1491 -
  refine Seg.bind (part58 m K _ _ _) ?_; rintro _ -
  refine Seg.bind (part59 m K _ _ _) ?_; rintro v1518 -
  refine Seg.bind (part60 m K _ _ _) ?_; rintro ⟨v1545, v1562, c0_i32_1786⟩ -
  exact Seg.ret rfl

theorem part97 (v2 v708 v789 v870 v951 v1032 v1113 v1194 v1275 v1356 v1437 v1464 v1491 v1518 v1545 v1562 w) : Seg m K c 181 283
    (on (k0_part97 (F := F)) c v2 v708 v789 v870 v951 v1032 v1113 v1194 v1275 v1356 v1437 v1464 v1491 v1518 v1545 v1562 w) (fun _ => True) := by
  rw [k0_part97_eq_skeleton]
  unfold on k0_part97_skel
  refine Seg.bind (part61 m K _ _ _ _ _) ?_; rintro v1572 -
  refine Seg.bind (part62 m K _ _ _ _) ?_; rintro ⟨v1599, v1612⟩ h
  dsimp only at h; subst h
  refine Seg.bind (part63 m K _ _ _ _) ?_; rintro ⟨v1626, v1636, v1637⟩ h
  dsimp only at h; obtain ⟨rfl, rfl⟩ := h
  refine Seg.bind (part64 m K _ _ _ _) ?_; rintro ⟨v1653, v1662⟩ h
  dsimp only at h; subst h
  refine Seg.bind (part65 m K _ _ _) ?_; rintro _ -
  refine Seg.bind (part66 m K _ _) ?_; rintro _ -
  refine Seg.bind (part67 m K _ _ _) ?_; rintro ⟨v1740, v1742⟩ h
  dsimp only at h; obtain ⟨rfl, rfl⟩ := h
  refine Seg.bind (part68 m K _ _ _) ?_; rintro _ -
  refine Seg.bind (part69 m K _ _) ?_; rintro _ -
  refine Seg.bind (part70 m K _ _) ?_; rintro v1830 h; subst h
  refine Seg.bind (part71 m K _ _ _) ?_; rintro v1854 h; subst h
  refine Seg.bind (part72 m K _ _ _) ?_; rintro _ -
  refine Seg.bind (part73 m K _ _) ?_; rintro _ -
  refine Seg.bind (part74 m K _ _) ?_; rintro ⟨v1934, v1943⟩ h
  dsimp only at h; obtain ⟨rfl, rfl⟩ := h
  refine Seg.bind (part75 m K _ _ _) ?_; rintro ⟨v1964, v1967⟩ h
  dsimp only at h; obtain ⟨rfl, rfl⟩ := h
  refine Seg.bind (part76 m K _ _ _) ?_; rintro _ -
  refine Seg.bind (part77 m K _) ?_; rintro _ -
  refine Seg.bind (part78 m K _) ?_; rintro _ -
  refine Seg.bind (part79 m K _) ?_; rintro _ -
  refine Seg.bind (part80 m K _) ?_; rintro _ -
  refine Seg.bind (part81 m K _) ?_; rintro _ -
  refine Seg.bind (part82 m K _) ?_; rintro _ -
  refine Seg.bind (part83 m K _) ?_; rintro _ -
  refine Seg.bind (part84 m K _) ?_; rintro _ -
  refine Seg.bind (part85 m K _) ?_; rintro _ -
  refine Seg.bind (part86 m K _) ?_; rintro _ -
  refine Seg.bind (part87 m K _) ?_; rintro _ -
  refine Seg.bind (part88 m K _) ?_; rintro _ -
  refine Seg.bind (part89 m K _) ?_; rintro _ -
  refine Seg.bind (part90 m K _) ?_; rintro _ -
  refine Seg.bind (part91 m K _) ?_; rintro _ -
  refine Seg.bind (part92 m K _) ?_; rintro _ -
  refine Seg.bind (part93 m K _) ?_; rintro _ -
  refine Seg.bind (part94 m K _) ?_; rintro _ -
  refine Seg.bind (part95 m K _) ?_; rintro _ -
  intro Q H
  simp only [Prog.lift, Prog.bind_op, Prog.bind_ret, Prog.pure_eq_ret]
  refine leave (2, 2, 6) ?_
  exact done (H _ trivial)

/-- The body takes the state before the first event to the state after the last. -/
theorem whole : Seg m K c 0 284 (on (cc0_body (F := F))) (fun _ => True) := by
  unfold on cc0_body
  refine Seg.bind (part96 m K _) ?_
  rintro ⟨d0, v2, v708, v789, v870, v951, v1032, v1113, v1194, v1275, v1356, v1437, v1464, v1491, v1518, v1545, v1562, w⟩ h
  dsimp only at h; subst h
  refine Seg.bind (part97 m K _ _ _ _ _ _ _ _ _ _ _ _ _ _ _ _ _ _) ?_
  rintro _ -
  intro Q H
  simp only [Prog.lift, Prog.bind_op, Prog.bind_ret, Prog.pure_eq_ret]
  refine leave (0, 2, 6) ?_
  exact done (H _ trivial)

end Cert.RS

end
-- ==== Proof.Buffers.lean ====
/-
The buffers cut into the places messages leave from and land in, and put together again: what a device has when it
starts and when it ends.
-/
module

public import proofs.«01_k».proof.Proof.Body
public import Idealize.ShloMosaic.Lib.Ring
public import Idealize.ShloMosaic.Lib.ViewIndex

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting an element set -/

section Cut

variable {ℓ : Loc nD τ sig} {I : Type} [Fintype I] [DecidableEq I] {S : Finset (Idx ℓ)} {P : I → Finset (Idx ℓ)}
  (hs : ∀ i, P i ⊆ S) (hd : ∀ i i', i ≠ i' → Disjoint (P i) (P i'))

/-- An element set at some contents. -/
abbrev some_ (ℓ : Loc nD τ sig) (S : Finset (Idx ℓ)) : sProp 𝕄 := iprop(∃ f, ℓ ↦[S]{fullShare} f)

include hs in
omit [Fintype I] [DecidableEq I] in
theorem union_sub [Fintype I] : Finset.univ.biUnion P ⊆ S := Finset.biUnion_subset.mpr fun i _ => hs i

omit [FloatOps F] in
include hs hd in
theorem cut : some_ (F := F) ℓ S ⊢ iprop((bigSep Finset.univ fun i => some_ ℓ (P i)) ∗ some_ ℓ (S \ Finset.univ.biUnion P)) := by
  iintro ⟨%f, H⟩
  ihave H' := (show (ℓ ↦[S]{fullShare} f : sProp 𝕄) ⊢ iprop((ℓ ↦[Finset.univ.biUnion P]{fullShare} f) ∗ ℓ ↦[S \ Finset.univ.biUnion P]{fullShare} f) from
    (pointsTo_split_subset (union_sub hs)).1) $$ H
  icases H' with ⟨H1, H2⟩
  isplitl [H1]
  · iapply ((Entails.of_eq (Ring.pointsTo_sub_blocks P hd _ rfl f)).trans (bigSep_mono fun i _ =>
      show (ℓ ↦[P i]{fullShare} f : sProp 𝕄) ⊢ some_ ℓ (P i) from by iintro H; iexists f; iexact H)) $$ H1
  · iexists f; iexact H2

omit [FloatOps F] in
include hs hd in
theorem glue : iprop((bigSep Finset.univ fun i => some_ (F := F) ℓ (P i)) ∗ some_ ℓ (S \ Finset.univ.biUnion P)) ⊢ some_ ℓ S := by
  iintro ⟨H1, ⟨%f, H2⟩⟩
  ihave H1 := (Ring.pointsTo_sub_blocks_join_exists P hd _ rfl f) $$ H1
  icases H1 with ⟨%g, H1⟩
  ihave H := (pointsTo_join_subset (union_sub hs)) $$ [H1 H2]
  · isplitl [H1] <;> iassumption
  iexists _
  iexact H

end Cut

/-! ## The strips of one buffer -/

section Strips

variable {s : Shape} {j : Fin 3} {I : Type} [Fintype I] [DecidableEq I] (c : Dev nD) (B : Memref sig .tc .vmem s .bf16) (hI : I → Fin 3)
  (r : I → Rect s) (hr : ∀ i a, (r i).stride a = 1) (hq : ∀ i, (r i).shape.Squeezes (Strip j (hI i)))
  (hd : ∀ i i', i ≠ i' → Disjoint (r i).set (r i').set)

/-- Device `c` holds a buffer, at some contents. -/
abbrev all {s : Shape} (c : Dev nD) (B : Memref sig .tc .vmem s .bf16) : sProp 𝕄 := some_ (B.view.loc (c : Thread nD τ)) B.view.set
/-- What is left of a buffer beside its strips. -/
abbrev left (c : Dev nD) (B : Memref sig .tc .vmem s .bf16) (r : I → Rect s) : sProp 𝕄 :=
  some_ (B.view.loc (c : Thread nD τ)) (B.view.set \ Finset.univ.biUnion fun i => (B.access (r i)).set)

theorem strip_sub (i : I) : (B.access (r i)).set ⊆ B.view.set := View.set_slice_subset _ _
theorem strip_disj (hd : ∀ i i', i ≠ i' → Disjoint (r i).set (r i').set) (i i' : I) (h : i ≠ i') :
    Disjoint (B.access (r i)).set (B.access (r i')).set := View.disjoint_slice (hd i i' h)

omit [FloatOps F] in
theorem strip_free (i : I) : (some_ (B.view.loc (c : Thread nD τ)) (B.access (r i)).set : sProp 𝕄) = free c (place B (r i) (hr i) (hq i)) := by
  unfold free; rw [place_set]

omit [FloatOps F] in
include hd in
theorem cut_strips : all (F := F) c B ⊢ iprop((bigSep Finset.univ fun i => free c (place B (r i) (hr i) (hq i))) ∗ left c B r) := by
  refine (cut (P := fun i => (B.access (r i)).set) (strip_sub B r) (strip_disj B r hd)).trans ?_
  rw [bigSep_congr fun i _ => strip_free c B hI r hr hq i]

omit [FloatOps F] in
include hd in
theorem glue_strips : iprop((bigSep Finset.univ fun i => free c (place B (r i) (hr i) (hq i))) ∗ left c B r) ⊢ all (F := F) c B := by
  refine BIBase.Entails.trans ?_ (glue (P := fun i => (B.access (r i)).set) (strip_sub B r) (strip_disj B r hd))
  rw [bigSep_congr fun i _ => strip_free c B hI r hr hq i]

end Strips

theorem disj4 (j : Fin 3) (i i' : Fin 3 × Fin 4) (h : i ≠ i') : Disjoint (rect4 j i.1 i.2).set (rect4 j i'.1 i'.2).set := by
  by_cases h1 : i.1 = i'.1
  · refine Rect.disjoint_of_axis _ _ (1 : Fin 4) fun a ha b hb he => h (Prod.ext h1 (Fin.ext ?_))
    change a < 1 at ha; change b < 1 at hb
    change i.2.val + 1 * a = i'.2.val + 1 * b at he
    omega
  · refine Rect.disjoint_of_axis _ _ (0 : Fin 4) fun a ha b hb he => h1 (Fin.ext ?_)
    change a < 1 at ha; change b < 1 at hb
    change i.1.val + 1 * a = i'.1.val + 1 * b at he
    omega

theorem disj2 (j : Fin 3) (i i' : Fin 3 × Fin 2) (h : i ≠ i') : Disjoint (rect2 j i.1 i.2).set (rect2 j i'.1 i'.2).set := by
  by_cases h1 : i.1 = i'.1
  · refine Rect.disjoint_of_axis _ _ (1 : Fin 4) fun a ha b hb he => h (Prod.ext h1 (Fin.ext ?_))
    change a < 1 at ha; change b < 1 at hb
    change i.2.val + 1 * a = i'.2.val + 1 * b at he
    omega
  · refine Rect.disjoint_of_axis _ _ (0 : Fin 4) fun a ha b hb he => h1 (Fin.ext ?_)
    change a < 1 at ha; change b < 1 at hb
    change i.1.val + 1 * a = i'.1.val + 1 * b at he
    omega

theorem disj1 (j : Fin 3) (i i' : Fin 3) (h : i ≠ i') : Disjoint (rect1 j i).set (rect1 j i').set := by
  refine Rect.disjoint_of_axis _ _ (0 : Fin 3) fun a ha b hb he => h (Fin.ext ?_)
  change a < 1 at ha; change b < 1 at hb
  change i.val + 1 * a = i'.val + 1 * b at he
  omega

/-! ## All the places of a slice -/

section Places

variable (m : (ℓ : Loc nD τ sig) → Buf (Elt F) ℓ) (c : Dev nD) (j h : Fin 3)

/-- The places of one strip of slice `j`. -/
def places : sProp 𝕄 :=
  iprop((bigSep Finset.univ fun i : Fin 4 => free c (view4 (s0B j) j h i)) ∗ (bigSep Finset.univ fun i : Fin 4 => free c (view4 (r0B j) j h i))
    ∗ (bigSep Finset.univ fun i : Fin 2 => free c (view2 (r1B j) j h i)) ∗ free c (view1 (r2B j) j h))

/-- What is left of slice `j`'s buffers. -/
def lefts : sProp 𝕄 :=
  iprop(left c (s0B j) (fun i : Fin 3 × Fin 4 => rect4 j i.1 i.2) ∗ left c (r0B j) (fun i : Fin 3 × Fin 4 => rect4 j i.1 i.2)
    ∗ left c (r1B j) (fun i : Fin 3 × Fin 2 => rect2 j i.1 i.2) ∗ left c (r2B j) (fun i : Fin 3 => rect1 j i))

/-- Slice `j`'s buffers. -/
def bufs : sProp 𝕄 := iprop(all c (s0B j) ∗ all c (r0B j) ∗ all c (r1B j) ∗ all c (r2B j))

omit [FloatOps F] in
theorem cut4 (B : Memref sig .tc .vmem S3x4x256x256 .bf16) : all (F := F) c B
    ⊣⊢ iprop((bigSep Finset.univ fun h : Fin 3 => bigSep Finset.univ fun i : Fin 4 => free c (view4 B j h i)) ∗ left c B (fun i : Fin 3 × Fin 4 => rect4 j i.1 i.2)) := by
  rw [← bigSep_univ_prod (fun hi : Fin 3 × Fin 4 => free c (view4 B j hi.1 hi.2))]
  exact ⟨cut_strips c B Prod.fst _ (fun _ _ => rfl) (fun i => sq4 j i.1) (disj4 j), glue_strips c B Prod.fst _ (fun _ _ => rfl) (fun i => sq4 j i.1) (disj4 j)⟩
omit [FloatOps F] in
theorem cut2 (B : Memref sig .tc .vmem S3x2x256x256 .bf16) : all (F := F) c B
    ⊣⊢ iprop((bigSep Finset.univ fun h : Fin 3 => bigSep Finset.univ fun i : Fin 2 => free c (view2 B j h i)) ∗ left c B (fun i : Fin 3 × Fin 2 => rect2 j i.1 i.2)) := by
  rw [← bigSep_univ_prod (fun hi : Fin 3 × Fin 2 => free c (view2 B j hi.1 hi.2))]
  exact ⟨cut_strips c B Prod.fst _ (fun _ _ => rfl) (fun i => sq4 j i.1) (disj2 j), glue_strips c B Prod.fst _ (fun _ _ => rfl) (fun i => sq4 j i.1) (disj2 j)⟩
omit [FloatOps F] in
theorem cut1 (B : Memref sig .tc .vmem S3x256x256 .bf16) : all (F := F) c B
    ⊣⊢ iprop((bigSep Finset.univ fun h : Fin 3 => free c (view1 B j h)) ∗ left c B (fun i : Fin 3 => rect1 j i)) :=
  ⟨cut_strips c B id _ (fun _ _ => rfl) (fun i => sq3 j i) (disj1 j), glue_strips c B id _ (fun _ _ => rfl) (fun i => sq3 j i) (disj1 j)⟩

omit [FloatOps F] in
theorem bufs_cut : bufs (F := F) c j ⊢ iprop(bigSep Finset.univ (places c j) ∗ lefts c j) := by
  unfold bufs places lefts
  rw [bigSep_sep', bigSep_sep', bigSep_sep']
  iintro ⟨H1, H2, H3, H4⟩
  ihave H1 := (cut4 c j (s0B j)).1 $$ H1
  ihave H2 := (cut4 c j (r0B j)).1 $$ H2
  ihave H3 := (cut2 c j (r1B j)).1 $$ H3
  ihave H4 := (cut1 c j (r2B j)).1 $$ H4
  icases H1 with ⟨A1, B1⟩
  icases H2 with ⟨A2, B2⟩
  icases H3 with ⟨A3, B3⟩
  icases H4 with ⟨A4, B4⟩
  isplitl [A1 A2 A3 A4]
  · isplitl [A1]; · iexact A1
    isplitl [A2]; · iexact A2
    isplitl [A3]; · iexact A3
    iexact A4
  · isplitl [B1]; · iexact B1
    isplitl [B2]; · iexact B2
    isplitl [B3]; · iexact B3
    iexact B4

omit [FloatOps F] in
theorem bufs_glue : iprop(bigSep Finset.univ (places (F := F) c j) ∗ lefts c j) ⊢ bufs c j := by
  unfold bufs places lefts
  rw [bigSep_sep', bigSep_sep', bigSep_sep']
  iintro ⟨⟨A1, A2, A3, A4⟩, B1, B2, B3, B4⟩
  isplitl [A1 B1]
  · iapply (cut4 c j (s0B j)).2; isplitl [A1] <;> iassumption
  isplitl [A2 B2]
  · iapply (cut4 c j (r0B j)).2; isplitl [A2] <;> iassumption
  isplitl [A3 B3]
  · iapply (cut2 c j (r1B j)).2; isplitl [A3] <;> iassumption
  · iapply (cut1 c j (r2B j)).2; isplitl [A4] <;> iassumption

/-! ## At the start and at the end -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin2 (Φ : Fin 2 → sProp 𝕄) : bigSep Finset.univ Φ = iprop(Φ 0 ∗ Φ 1) := bigSep_univ_eq_bigSepL [0, 1] (by decide) (by decide) Φ

theorem srcAt_zero_lo (o : Fin 7) (ho : o.val < 4) : srcAt m c 0 (j, h, o) = free c (from_ (j, h, o)) := by
  unfold srcAt
  rw [if_neg (Nat.not_lt_zero _), if_neg (by rintro (h' | h'); exacts [Nat.not_lt_zero _ h', Nat.not_le_of_lt ho h']), if_neg (Nat.not_lt_zero _)]
theorem srcAt_zero_hi (o : Fin 7) (ho : 4 ≤ o.val) : srcAt m c 0 (j, h, o) = iprop(emp) := by
  unfold srcAt
  rw [if_neg (Nat.not_lt_zero _), if_pos (.inr ho)]
theorem dstAt_zero (k : Msg) : dstAt m c 0 k = free c (land k) := if_pos (Nat.not_lt_zero _)

theorem ended_sw : ∀ k, t (.sw k) < 284 := by decide +kernel
theorem ended_sig : ∀ p, t (.sig p) < 284 := by decide +kernel
theorem ended_rw : ∀ k, t (.rw k) < 284 := by decide +kernel
theorem ended_send : ∀ k, t (.send k) < 284 := by decide +kernel
theorem ended_bar : t .bar < 284 := by decide +kernel
theorem ended_out : ∀ jh, t (.out jh) < 284 := by decide +kernel

theorem srcAt_end (k : Msg) : srcAt m c 284 k ⊢ free c (from_ k) := by
  unfold srcAt
  rw [if_pos (ended_sw k)]
  exact holds_free _ _
theorem dstAt_end (k : Msg) (hk : ¬ fwd k < 284) : dstAt m c 284 k ⊢ free c (land k) := by
  unfold dstAt
  rw [if_neg (not_not.mpr (ended_sig _)), if_neg (not_not.mpr (ended_rw _)), if_neg hk]
  split <;> exact holds_free _ _

/-- At the start every place is in some message's hands. -/
theorem places_start : places c j h ⊢ bigSep Finset.univ fun o : Fin 7 => iprop(srcAt m c 0 (j, h, o) ∗ dstAt m c 0 (j, h, o)) := by
  unfold places
  rw [bigSep_sep', bigSep_fin7, bigSep_fin7, bigSep_fin4, bigSep_fin4, bigSep_fin2]
  rw [srcAt_zero_lo m c j h 0 (by decide), srcAt_zero_lo m c j h 1 (by decide), srcAt_zero_lo m c j h 2 (by decide), srcAt_zero_lo m c j h 3 (by decide),
    srcAt_zero_hi m c j h 4 (by decide), srcAt_zero_hi m c j h 5 (by decide), srcAt_zero_hi m c j h 6 (by decide)]
  simp only [dstAt_zero]
  iintro ⟨⟨A0, A1, A2, A3⟩, ⟨B0, B1, B2, B3⟩, ⟨C0, C1⟩, D⟩
  isplitl [A0 A1 A2 A3]
  · isplitl [A0]; · iexact A0
    isplitl [A1]; · iexact A1
    isplitl [A2]; · iexact A2
    isplitl [A3]; · iexact A3
    isplitr; · iempintro
    isplitr; · iempintro
    iempintro
  · isplitl [B0]; · iexact B0
    isplitl [B1]; · iexact B1
    isplitl [B2]; · iexact B2
    isplitl [B3]; · iexact B3
    isplitl [C0]; · iexact C0
    isplitl [C1]; · iexact C1
    iexact D

/-- And so it is at the end. -/
theorem places_end : (bigSep Finset.univ fun o : Fin 7 => iprop(srcAt m c 284 (j, h, o) ∗ dstAt m c 284 (j, h, o))) ⊢ places c j h := by
  unfold places
  rw [bigSep_sep', bigSep_fin7, bigSep_fin7, bigSep_fin4, bigSep_fin4, bigSep_fin2]
  iintro ⟨⟨A0, A1, A2, A3, A4, A5, A6⟩, B0, -, B2, -, B4, -, B6⟩
  isplitl [A0 A1 A2 A3]
  · isplitl [A0]; · iapply (srcAt_end m c (j, h, 0)) $$ A0
    isplitl [A1]; · iapply (srcAt_end m c (j, h, 1)) $$ A1
    isplitl [A2]; · iapply (srcAt_end m c (j, h, 2)) $$ A2
    iapply (srcAt_end m c (j, h, 3)) $$ A3
  isplitl [B0 A4 B2 A5]
  · isplitl [B0]; · iapply (dstAt_end m c (j, h, 0) (by simp only [fwd]; decide)) $$ B0
    isplitl [A4]; · iapply (srcAt_end m c (j, h, 4)) $$ A4
    isplitl [B2]; · iapply (dstAt_end m c (j, h, 2) (by simp only [fwd]; decide)) $$ B2
    iapply (srcAt_end m c (j, h, 5)) $$ A5
  isplitl [B4 A6]
  · isplitl [B4]; · iapply (dstAt_end m c (j, h, 4) (by simp only [fwd]; decide)) $$ B4
    iapply (srcAt_end m c (j, h, 6)) $$ A6
  · iapply (dstAt_end m c (j, h, 6) (by simp only [fwd]; decide)) $$ B6

omit [FloatOps F] in
theorem over_msgs (Φ : Msg → sProp 𝕄) :
    bigSep Finset.univ Φ = bigSep Finset.univ fun j : Fin 3 => bigSep Finset.univ fun h : Fin 3 => bigSep Finset.univ fun o : Fin 7 => Φ (j, h, o) := by
  rw [bigSep_univ_prod]; exact bigSep_congr fun j _ => bigSep_univ_prod _

/-- The buffers at the start; -/
theorem bufs_start : bigSep Finset.univ (bufs (F := F) c)
    ⊢ iprop((bigSep Finset.univ fun k => srcAt m c 0 k) ∗ (bigSep Finset.univ fun k => dstAt m c 0 k) ∗ bigSep Finset.univ (lefts c)) := by
  iintro H
  ihave H := (show bigSep Finset.univ (bufs (F := F) c) ⊢ iprop((bigSep Finset.univ fun j : Fin 3 => bigSep Finset.univ (places c j)) ∗ bigSep Finset.univ (lefts c)) from by
    rw [← bigSep_sep']
    exact bigSep_mono fun j _ => bufs_cut c j) $$ H
  icases H with ⟨H, HL⟩
  ihave H := (show (bigSep Finset.univ fun j : Fin 3 => bigSep Finset.univ (places c j))
      ⊢ iprop((bigSep Finset.univ fun k => srcAt m c 0 k) ∗ bigSep Finset.univ fun k => dstAt m c 0 k) from by
    rw [← bigSep_sep', over_msgs]
    exact bigSep_mono fun j _ => bigSep_mono fun h _ => places_start m c j h) $$ H
  icases H with ⟨H1, H2⟩
  isplitl [H1]; · iexact H1
  isplitl [H2] <;> iassumption

/-- and at the end. -/
theorem bufs_end : iprop((bigSep Finset.univ fun k => srcAt m c 284 k) ∗ (bigSep Finset.univ fun k => dstAt m c 284 k) ∗ bigSep Finset.univ (lefts c))
    ⊢ bigSep Finset.univ (bufs (F := F) c) := by
  iintro ⟨H1, H2, HL⟩
  iapply (show iprop((bigSep Finset.univ fun j : Fin 3 => bigSep Finset.univ (places c j)) ∗ bigSep Finset.univ (lefts c)) ⊢ bigSep Finset.univ (bufs (F := F) c) from by
    rw [← bigSep_sep']
    exact bigSep_mono fun j _ => bufs_glue c j)
  isplitl [H1 H2]
  · iapply (show iprop((bigSep Finset.univ fun k => srcAt m c 284 k) ∗ bigSep Finset.univ fun k => dstAt m c 284 k)
        ⊢ (bigSep Finset.univ fun j : Fin 3 => bigSep Finset.univ (places c j)) from by
      rw [← bigSep_sep', over_msgs]
      exact bigSep_mono fun j _ => bigSep_mono fun h _ => places_end m c j h)
    isplitl [H1] <;> iassumption
  · iexact HL

end Places

end Cert.RS

end
-- ==== Proof.Ghost.lean ====
/-
What every device starts from: its own cells' positions, the tokens of the duties it pays, the credit for what its
partners owe it, and the invariants of all the cells, common to all devices.
-/
module

public import proofs.«01_k».proof.Proof.Buffers

@[expose] public section

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem num_eq_of_send {k k' : Msg} (h : (.dma (sendS k) : SemLoc sig) = .dma (sendS k')) : k = k' := by
  have h1 : (sendS k).val = (sendS k').val := congrArg Fin.val (SemLoc.dma.inj h)
  rw [sendS_val, sendS_val] at h1
  exact num_inj (by omega)
theorem num_eq_of_recv {k k' : Msg} (h : (.dma (recvS k) : SemLoc sig) = .dma (recvS k')) : k = k' := by
  have h1 : (recvS k).val = (recvS k').val := congrArg Fin.val (SemLoc.dma.inj h)
  rw [recvS_val, recvS_val] at h1
  exact num_inj (by omega)
theorem send_ne_recv (k k' : Msg) : (.dma (sendS k) : SemLoc sig) ≠ .dma (recvS k') := fun h => by
  have h1 : (sendS k).val = (recvS k').val := congrArg Fin.val (SemLoc.dma.inj h)
  rw [sendS_val, recvS_val] at h1
  have := num_lt k
  omega

/-- The cells that are the kernel's own, and not the runtime's. -/
def osem (bk : Bool × Msg) : SemLoc sig := csem (some bk)

theorem csem_inj : Function.Injective csem := by
  rintro (_ | ⟨_ | _, k⟩) (_ | ⟨_ | _, k'⟩) h
  · rfl
  · cases h
  · cases h
  · cases h
  · rw [num_eq_of_send h]
  · exact absurd h (send_ne_recv k k')
  · cases h
  · exact absurd h.symm (send_ne_recv k' k)
  · rw [num_eq_of_recv h]

theorem stage_lt : ∀ w s, ((cfg0.spec w).sem s).val < 3 := by decide +kernel

theorem ownSemFacts : Pipeline.OwnSemFacts cfg0.spec osem where
  isScoped := by decide +kernel
  inj := fun a b h => by have := csem_inj h; simpa using this
  disj := fun bk w s h => by
    have h3 := stage_lt w s
    obtain ⟨_ | _, k⟩ := bk
    · have h1 : (sendS k).val = ((cfg0.spec w).sem s).val := congrArg Fin.val (SemLoc.dma.inj h)
      rw [sendS_val] at h1; omega
    · have h1 : (recvS k).val = ((cfg0.spec w).sem s).val := congrArg Fin.val (SemLoc.dma.inj h)
      rw [recvS_val] at h1; omega

theorem kcell_inj : Function.Injective kcell := by
  rintro ⟨c, k⟩ ⟨c', k'⟩ h
  have h1 : c = c' := by have := congrArg (fun g : GSem nD τ sig => g.1.1) h; exact this
  have h2 : k = k' := csem_inj (congrArg Prod.snd h)
  rw [h1, h2]

def rsCells : Finset (GSem nD τ sig) := Finset.univ.map ⟨kcell, kcell_inj⟩

/-- A device's own cells' tokens: three of its barrier, one of every other cell. -/
def tokOf (x : Dev nD × (Fin 3 ⊕ Bool × Msg)) : GSem nD τ sig × ℕ × Fin 3 := match x.2 with
  | .inl p => (barCell x.1, 0, p)
  | .inr bk => (kcell (x.1, some bk), 0, 0)

theorem tokOf_inj : Function.Injective tokOf := by
  rintro ⟨c, p | bk⟩ ⟨c', p' | bk'⟩ h
  · have h1 : (c, none) = (c', (none : CI)) := kcell_inj (congrArg (fun x : GSem nD τ sig × ℕ × Fin 3 => x.1) h)
    have h2 : p = p' := congrArg (fun x : GSem nD τ sig × ℕ × Fin 3 => x.2.2) h
    obtain rfl : c = c' := congrArg Prod.fst h1
    rw [h2]
  · have h1 : (c, none) = (c', some bk') := kcell_inj (congrArg (fun x : GSem nD τ sig × ℕ × Fin 3 => x.1) h)
    cases congrArg Prod.snd h1
  · have h1 : (c, some bk) = (c', none) := kcell_inj (congrArg (fun x : GSem nD τ sig × ℕ × Fin 3 => x.1) h)
    cases congrArg Prod.snd h1
  · have h1 : (c, some bk) = (c', some bk') := kcell_inj (congrArg (fun x : GSem nD τ sig × ℕ × Fin 3 => x.1) h)
    obtain ⟨rfl, h3⟩ := Prod.mk.inj h1
    cases h3; rfl

def rsToks : Finset (GSem nD τ sig × ℕ × Fin 3) := Finset.univ.map ⟨tokOf, tokOf_inj⟩

def u₀ : UU := (initOf (Pipeline.cells cfgs cellOf_inj) (Pipeline.launchToks cfgs cellOf_inj), initOf rsCells rsToks)

variable (m : (ℓ : Loc nD τ sig) → Buf (Elt F) ℓ)

/-- The tokens of device `c`'s own cells. -/
def toks (c : Dev nD) : sProp 𝕄 :=
  iprop((bigSep Finset.univ fun p : Fin 3 => dutyTok ER (barCell c) 0 p) ∗ (bigSep Finset.univ fun k => dutyTok ER (sendCell c k) 0 (0 : Fin 3))
    ∗ bigSep Finset.univ fun k => dutyTok ER (recvCell c k) 0 (0 : Fin 3))

/-- What the launch deals device `c`. -/
def G (c : Dev nD) : sProp 𝕄 :=
  iprop((bigSep Finset.univ fun k : CI => roundState ER (rsRd m) (kcell (c, k)) 0)
    ∗ (bigSep Finset.univ fun k : CI => iprop(atPos ER (kcell (c, k)) 0 ∅ 0 ∗ reached ER (kcell (c, k)) 0)) ∗ toks c)

/-- The tokens of the duties device `c` pays. -/
def payToks (c : Dev nD) : sProp 𝕄 :=
  iprop((bigSep Finset.univ fun p : Fin 3 => dutyTok ER (barCell (peer p c)) 0 p) ∗ (bigSep Finset.univ fun k => dutyTok ER (sendCell c k) 0 (0 : Fin 3))
    ∗ bigSep Finset.univ fun k => dutyTok ER (recvCell (peer (mk k) c) k) 0 (0 : Fin 3))

/-- What stays with device `c`: its cells' positions and those tokens. -/
def mineOnly (c : Dev nD) : sProp 𝕄 := iprop((bigSep Finset.univ fun k : CI => atPos ER (kcell (c, k)) 0 ∅ 0) ∗ payToks c)

/-- What all devices know. -/
def records (K : Dev nD × CI → ℕ) : sProp 𝕄 :=
  iprop((bigSep Finset.univ fun ck => cellInv ER (rsRd m) (K ck) (kcell ck)) ∗ bigSep Finset.univ fun ck => reached ER (kcell ck) 0)

instance records_persistent (K : Dev nD × CI → ℕ) : BI.Persistent (records m K) := by unfold records; infer_instance

/-- What the global step makes of it. -/
def G' (c : Dev nD) : sProp 𝕄 := iprop(∃ K, records m K ∗ mineOnly c)

omit [FloatOps F] in
theorem over_cells (Φ : CI → sProp 𝕄) : bigSep Finset.univ Φ
    = iprop(Φ none ∗ (bigSep Finset.univ fun k => Φ (some (false, k))) ∗ bigSep Finset.univ fun k => Φ (some (true, k))) := by
  have h : (Finset.univ.erase none : Finset CI) = Finset.univ.map Function.Embedding.some := by
    ext x; cases x <;> simp
  rw [bigSep_univ_at Φ none, h, bigSep_map, bigSep_univ_prod,
    bigSep_univ_eq_bigSepL [false, true] (by decide) (by decide)]
  rfl

omit [FloatOps F] in
theorem over_own (Φ : Bool × Msg → sProp 𝕄) : bigSep Finset.univ Φ
    = iprop((bigSep Finset.univ fun k => Φ (false, k)) ∗ bigSep Finset.univ fun k => Φ (true, k)) := by
  rw [bigSep_univ_prod, bigSep_univ_eq_bigSepL [false, true] (by decide) (by decide)]
  rfl

theorem fund_rs : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : CI => Φ (kcell (c, k)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [bigSep_univ_sum, over_own]; rfl
  iintro HX
  imod (Rounds.fund ER (rsRd m) rsCells rsToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The sending and receiving semaphores are the kernel's own; -/
abbrev ownSems (c : Dev nD) : sProp 𝕄 := Pipeline.ownSems0 (Ix := Unit) (Name := ℕ) (U := UU) (Lvl := ℕ) (Val := Elt F) (τ := τ) osem c

omit [FloatOps F] in
theorem ownSems_eq (c : Dev nD) : ownSems (F := F) c
    = iprop((bigSep Finset.univ fun k => semVal (sendCell c k) 0) ∗ bigSep Finset.univ fun k => semVal (recvCell c k) 0) := by
  unfold ownSems Pipeline.ownSems0; rw [over_own]; rfl
omit [FloatOps F] in
/-- the barrier's the only one outliving it. -/
theorem unscopedSems_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems_eq (c : Dev nD) : iprop(ownSems c ∗ unscopedSems0 c) ⊢ (bigSep Finset.univ fun k : CI => semVal (kcell (c, k)) 0 : sProp 𝕄) := by
  rw [ownSems_eq, unscopedSems_eq, over_cells]
  iintro ⟨⟨HS, HV⟩, HB⟩
  isplitl [HB]; · iexact HB
  isplitl [HS]; · iexact HS
  iexact HV

theorem core_alloc (c : Dev nD) : iprop(ownSems c ∗ unscopedSems0 c ∗ G m c)
      ⊢ |={Set.univ}=> iprop((bigSep Finset.univ fun k => iprop(∃ κ : ℕ, cellInv ER (rsRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k : CI => semVal (kcell (c, k)) 0) ∗ bigSep Finset.univ fun k : CI => roundState ER (rsRd m) (kcell (c, k)) 0)
      ⊢ (|={Set.univ}=> bigSep Finset.univ fun k => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt out: each partner gets its own of a barrier's three, each sender that of its message's arrival. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  rw [bigSep_univ_comm (fun (c : Dev nD) (p : Fin 3) => (dutyTok ER (barCell c) 0 p : sProp 𝕄)),
    bigSep_univ_comm (fun (c : Dev nD) (p : Fin 3) => (dutyTok ER (barCell (peer p c)) 0 p : sProp 𝕄)),
    bigSep_univ_comm (fun (c : Dev nD) (k : Msg) => (dutyTok ER (recvCell c k) 0 (0 : Fin 3) : sProp 𝕄)),
    bigSep_univ_comm (fun (c : Dev nD) (k : Msg) => (dutyTok ER (recvCell (peer (mk k) c) k) 0 (0 : Fin 3) : sProp 𝕄)),
    bigSep_congr fun (p : Fin 3) _ => bigSep_univ_equiv (swap p) (fun c : Dev nD => (dutyTok ER (barCell c) 0 p : sProp 𝕄)),
    bigSep_congr fun (k : Msg) _ => bigSep_univ_equiv (swap (mk k)) (fun c : Dev nD => (dutyTok ER (recvCell c k) 0 (0 : Fin 3) : sProp 𝕄))]
  exact BI.Entails.refl _

theorem regroup :
    (bigSep Finset.univ fun c : Dev nD => iprop((bigSep Finset.univ fun k => iprop(∃ κ : ℕ, cellInv ER (rsRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (rsRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rsRd m) κ (kcell ck) : sProp 𝕄))) $$ HI
  icases HK with ⟨%K, #HI⟩
  ihave Htk := (toks_around (F := F)) $$ Htok
  iapply (bigSep_with_persistent (R := records m K) (Φ := mineOnly) (Ψ := G' m) (S := Finset.univ) fun c _ => show iprop(records m K ∗ mineOnly c) ⊢ G' m c from by
    unfold G'; iintro ⟨H1, H2⟩; iexists K; isplitl [H1] <;> iassumption)
  isplitr
  · unfold records; isplitl; · iexact HI
    iexact HR
  · unfold mineOnly
    rw [bigSep_sep']
    isplitl [Hat]; · iexact Hat
    iexact Htk

/-- The global step: the semaphores of every device at once. -/
theorem glob : (bigSep Finset.univ fun c => iprop(ownSems c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem cell_dev {a b : Dev nD} {sm sm' : SemLoc sig} (h : (((a : Thread nD τ), sm) : GSem nD τ sig) = ((b : Thread nD τ), sm')) : a = b := by
  have := congrArg (fun g : GSem nD τ sig => g.1.1) h; exact this

theorem owed_zero_at (c : Dev nD) (g : GSem nD τ sig) :
    owed c 0 g () = (∑ k, (tallyAt (recvCell (peer (mk k) c) k) () (amt k) : CellTallies nD τ sig Unit) g ())
      + ∑ p, (tallyAt (barCell (peer p c)) () 1 : CellTallies nD τ sig Unit) g () := by
  unfold owed oweMsg oweSig
  simp only [Nat.not_lt_zero, if_false]
  rw [Pi.add_apply, Finsupp.add_apply, Finset.sum_apply, Finset.sum_apply, Finsupp.finset_sum_apply, Finsupp.finset_sum_apply]

theorem owed_bar (d c : Dev nD) : owed d 0 (barCell c) () = ∑ p, if d = peer p c then 1 else 0 := by
  rw [owed_zero_at, Finset.sum_eq_zero fun k _ => by rw [tallyAt_ne_cell (fun h => by cases congrArg Prod.snd h)]; rfl, Nat.zero_add]
  refine Finset.sum_congr rfl fun p _ => ?_
  rw [tallyAt_apply]
  by_cases h : d = peer p c
  · subst h; rw [peer_peer, if_pos ⟨rfl, rfl⟩, if_pos rfl]
  · rw [if_neg (fun h' => h (by rw [cell_dev h'.1, peer_peer])), if_neg h]

theorem owed_recv (d c : Dev nD) (k : Msg) : owed d 0 (recvCell c k) () = if d = peer (mk k) c then amt k else 0 := by
  rw [owed_zero_at, Finset.sum_eq_zero (s := (Finset.univ : Finset (Fin 3))) fun p _ => by
    rw [tallyAt_ne_cell (fun h => by cases congrArg Prod.snd h)]; rfl, Nat.add_zero, Finset.sum_eq_single k]
  · rw [tallyAt_apply]
    by_cases h : d = peer (mk k) c
    · subst h; rw [peer_peer, if_pos ⟨rfl, rfl⟩, if_pos rfl]
    · rw [if_neg (fun h' => h (by rw [cell_dev h'.1, peer_peer])), if_neg h]
  · intro k' _ hk
    rw [tallyAt_ne_cell (fun h => hk (num_eq_of_recv (congrArg Prod.snd h).symm))]; rfl
  · exact fun h => absurd (Finset.mem_univ _) h

/-- What the devices owe at the start. -/
abbrev O₀ (c : Dev nD) : CellTallies nD τ sig Unit := owed c 0

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun p _ => (Finset.sum_ite_eq' Finset.univ (peer p c) fun _ => 1).trans (if_pos (Finset.mem_univ _))]
  rfl

theorem launch_recv (c : Dev nD) (k : Msg) :
    tallyOn (recvCell c k) (launchCredit (Pipeline.owing O₀) 0 (recvCell c k)) = (tallyAt (recvCell c k) () (amt k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer (mk k) c) fun _ => amt k, if_pos (Finset.mem_univ _)]

/-- The credit a device starts from. -/
def creds (c : Dev nD) : sProp 𝕄 :=
  iprop(cred (tallyAt (barCell c) () 3) ∗ bigSep Finset.univ fun k => cred (tallyAt (recvCell c k) () (amt k)))

def recvEmb : Msg ↪ SemLoc sig := ⟨fun k => .dma (recvS k), fun _ _ h => num_eq_of_recv h⟩

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← bigSep_congr fun k _ => congrArg cred (launch_recv c k)]
  have hs : (Finset.univ.map recvEmb : Finset (SemLoc sig)) ⊆ Finset.univ.erase (.reg barS) := fun x hx => by
    obtain ⟨k, -, rfl⟩ := Finset.mem_map.mp hx
    exact Finset.mem_erase.mpr ⟨(fun h => nomatch h), Finset.mem_univ _⟩
  refine (bigSep_subset hs).trans ?_
  rw [bigSep_map]
  exact BI.Entails.refl _

end Cert.RS

end
-- ==== Proof.Launch.lean ====
/-
The whole run: every device's body from the launch to the end, the partners' credit and tokens dealt out at the start.
-/
module

public import proofs.«01_k».proof.Proof.Ghost
public import Idealize.ShloMosaic.Lib.Pipeline.CollectiveSegs

@[expose] public section

set_option maxRecDepth 200000

noncomputable section

namespace Cert.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## The scratch buffers -/

/-- The working copy's buffer, at some contents. -/
abbrev scr0 : sProp 𝕄 := iprop(∃ f, ((c : Thread nD τ).loc cc0_scratch0) ↦{fullShare} f)

omit [FloatOps F] in
theorem scratch_eq : (Pipeline.scopedRest cfg0.spec c : sProp 𝕄) ⊣⊢ iprop(scr0 c ∗ bigSep Finset.univ (bufs c)) := by
  rw [show (Pipeline.scopedRest cfg0.spec c : sProp 𝕄) = _ from scopedRest0_eq c, bigSep_fin3]
  unfold bufs all some_ s0B r0B r1B r2B
  simp only [Memref.view_whole, View.set_whole]
  constructor
  · iintro ⟨H0, H1, H2, H3, H4, H5, H6, H7, H8, H9, H10, H11, H12⟩
    isplitl [H0]; · iexact H0
    isplitl [H1 H4 H7 H10]
    · isplitl [H1]; · iexact H1
      isplitl [H4]; · iexact H4
      isplitl [H7]; · iexact H7
      iexact H10
    isplitl [H2 H5 H8 H11]
    · isplitl [H2]; · iexact H2
      isplitl [H5]; · iexact H5
      isplitl [H8]; · iexact H8
      iexact H11
    · isplitl [H3]; · iexact H3
      isplitl [H6]; · iexact H6
      isplitl [H9]; · iexact H9
      iexact H12
  · iintro ⟨H0, ⟨H1, H4, H7, H10⟩, ⟨H2, H5, H8, H11⟩, H3, H6, H9, H12⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-! ## The state before the first event and after the last -/

/-- The output's buffer, at some contents. -/
abbrev out0 : sProp 𝕄 := iprop(∃ f, ((c : Thread nD τ).loc cc0_stg2_0) ↦{fullShare} f)

/-- What a device starts from beside its buffers. -/
def startG : sProp 𝕄 := iprop(records m K ∗ mineOnly c ∗ creds c ∗ levAts L lv)

theorem slots_start :
    iprop((bigSep Finset.univ fun k => srcAt m c 0 k) ∗ (bigSep Finset.univ fun k => dstAt m c 0 k)
        ∗ (bigSep Finset.univ fun k => atPos ER (sendCell c k) 0 ∅ 0) ∗ (bigSep Finset.univ fun k => dutyTok ER (sendCell c k) 0 (0 : Fin 3))
        ∗ (bigSep Finset.univ fun k => atPos ER (recvCell c k) 0 ∅ 0) ∗ (bigSep Finset.univ fun k => cred (tallyAt (recvCell c k) () (amt k)))
        ∗ bigSep Finset.univ fun k => dutyTok ER (recvCell (peer (mk k) c) k) 0 (0 : Fin 3))
      ⊢ bigSep Finset.univ (slot m c 0) := by
  rw [← bigSep_sep', ← bigSep_sep', ← bigSep_sep', ← bigSep_sep', ← bigSep_sep', ← bigSep_sep']
  refine bigSep_mono fun k _ => ?_
  refine (BIBase.Entails.trans ?_ BIBase.Entails.rfl : BIBase.Entails (PROP := sProp 𝕄) _ _)
  unfold slot peerAt sendAt recvAt tokAt
  simp only [Nat.not_lt_zero, if_false, false_and]
  iintro ⟨H1, H2, H3, H4, H5, H6, H7⟩
  isplitl [H1]; · iexact H1
  isplitl [H2]; · iexact H2
  isplitr; · iempintro
  isplitl [H3 H4]
  · isplitl [H3] <;> iassumption
  isplitl [H5 H6]
  · isplitl [H5] <;> iassumption
  iexact H7

theorem St_start (W : Waits sig Unit) :
    iprop(startG m K c ∗ ((bigSep Finset.univ fun k => srcAt m c 0 k) ∗ bigSep Finset.univ fun k => dstAt m c 0 k)
        ∗ owes (c : Thread nD τ) (O₀ c) W ∗ scr0 c ∗ inAt m c ∗ out0 c) ⊢ St m K c 0 := by
  unfold startG records mineOnly payToks creds
  rw [over_cells]
  iintro ⟨⟨⟨HI, HR⟩, ⟨⟨HaB, HaS, HaV⟩, HtB, HtS, HtV⟩, ⟨HcB, HcV⟩, Hl⟩, ⟨Hs, Hd⟩, HO, Hx, Hin, ⟨%f, Hout⟩⟩
  unfold St Rec
  isplitl [HI HR Hl]
  · isplitl [HI]; · iexact HI
    isplitl [HR]; · iexact HR
    iexact Hl
  isplitl [Hs Hd HaS HtS HaV HcV HtV]
  · iapply (slots_start m c)
    isplitl [Hs]; · iexact Hs
    isplitl [Hd]; · iexact Hd
    isplitl [HaS]; · iexact HaS
    isplitl [HtS]; · iexact HtS
    isplitl [HaV]; · iexact HaV
    isplitl [HcV]; · iexact HcV
    iexact HtV
  isplitl [HO]
  · unfold oweAt; iexists W; iexact HO
  unfold misc
  isplitl [HtB]
  · rw [show bigSep Finset.univ (sigAt (F := F) c 0) = bigSep Finset.univ fun p : Fin 3 => dutyTok ER (barCell (peer p c)) 0 p from
      bigSep_congr fun p _ => if_neg (Nat.not_lt_zero _)]
    iexact HtB
  isplitl [HaB HcB]
  · unfold barAt; rw [if_neg (Nat.not_lt_zero _)]
    isplitl [HaB]; · iexact HaB
    iexact HcB
  isplitl [Hx]
  · unfold xAt; rw [if_neg (Nat.not_lt_zero _)]; iexact Hx
  isplitl [Hin]; · iexact Hin
  unfold outAt
  iexists f
  isplitr
  · ipureintro; exact fun i h => absurd h (Nat.not_lt_zero _)
  iexact Hout

theorem slots_end : bigSep Finset.univ (slot m c 284)
    ⊢ iprop((bigSep Finset.univ fun k => srcAt m c 284 k) ∗ (bigSep Finset.univ fun k => dstAt m c 284 k) ∗ ownSems c) := by
  rw [ownSems_eq, ← bigSep_sep', ← bigSep_sep', ← bigSep_sep']
  refine bigSep_mono fun k _ => ?_
  refine (BIBase.Entails.trans ?_ BIBase.Entails.rfl : BIBase.Entails (PROP := sProp 𝕄) _ _)
  unfold slot sendAt recvAt
  simp only [ended_sw, ended_rw, if_true]
  iintro ⟨H1, H2, -, H4, H5, -⟩
  isplitl [H1]; · iexact H1
  isplitl [H2]; · iexact H2
  isplitl [H4]; · iexact H4
  iexact H5

theorem owed_end : owed c 284 = 0 := by
  unfold owed oweMsg oweSig
  simp only [ended_send, ended_sig, if_true, Finset.sum_const_zero, add_zero]

theorem ended_copyX : t .copyX < 284 := by decide +kernel

/-- What a device ends with. -/
def endG : sProp 𝕄 :=
  iprop(((bigSep Finset.univ fun k => srcAt m c 284 k) ∗ bigSep Finset.univ fun k => dstAt m c 284 k) ∗ ownSems c ∗ unscopedSems0 c
    ∗ (∃ W, owes (c : Thread nD τ) 0 W) ∗ scr0 c ∗ inAt m c ∗ (((c : Thread nD τ).loc cc0_stg2_0) ↦{fullShare} (result m c)))

theorem St_end : St m K c 284 ⊢ endG m c := by
  unfold St misc oweAt barAt xAt outAt
  rw [if_pos ended_bar, if_pos ended_copyX, owed_end]
  iintro ⟨-, Hs, HO, -, HB, Hx, Hin, ⟨%f, %hf, Hout⟩⟩
  have hf' : f = result m c := funext fun i => hf i (ended_out _)
  subst hf'
  ihave Hs := (slots_end m c) $$ Hs
  icases Hs with ⟨H1, H2, H3⟩
  unfold endG
  isplitl [H1 H2]
  · isplitl [H1]; · iexact H1
    iexact H2
  isplitl [H3]; · iexact H3
  isplitl [HB]; · rw [unscopedSems_eq]; iexact HB
  isplitl [HO]; · iexact HO
  isplitl [Hx]; · iexists _; iexact Hx
  isplitl [Hin]; · iexact Hin
  iexact Hout

/-! ## The body's obligation -/

/-- The memory before the run. -/
abbrev mem0 : MemSt nD τ sig (Elt F) := ⟨m, fun _ => 0, ρ⟩

def start : sProp 𝕄 := iprop((∃ K, records m K ∗ mineOnly c) ∗ creds c ∗ levAts L lv)
def Φ₀ : sProp 𝕄 := iprop(start m c ∗ Pipeline.scopedRest cfg0.spec c)
def Φ₁ : sProp 𝕄 := iprop(unscopedSems0 c ∗ ownSems c ∗ Pipeline.scopedRest cfg0.spec c)

def dats (_ : Fin 1) (c : Dev nD) : Dat τ (Elt F) Unit ℕ UU ℕ cfg0 c where
  A w := (mem0 m ρ).mem ((cfg0.win w).arr.view.loc (c : Thread nD τ))
  after w _ := match w with
    | ⟨0, _⟩ => xstg m c
    | ⟨1, _⟩ => wstg m c
    | ⟨2, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem over_windows (Φ : Fin cfg0.W → sProp 𝕄) : bigSep Finset.univ Φ = iprop(Φ (0 : Fin 3) ∗ Φ (1 : Fin 3) ∗ Φ (2 : Fin 3)) := bigSep_W0 Φ

theorem one_point (s : Fin cfg0.N) : s = t0_0 := fin_N0 s
theorem fetched0 : (cfg0.win (0 : Fin 3)).fetch t0_0 = true := rfl
theorem fetched1 : (cfg0.win (1 : Fin 3)).fetch t0_0 = true := rfl

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((dats m ρ 0 c).Φ t0_0.castSucc ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop((dats m ρ 0 c).Φ t0_0.succ ∗ (dats m ρ 0 c).owesAt () t0_0.succ ∗ stg c cc0_stg0_0 ((dats m ρ 0 c).after (0 : Fin 3) t0_0)
    ∗ stg c cc0_stg1_0 ((dats m ρ 0 c).after (1 : Fin 3) t0_0) ∗ stg c cc0_stg2_0 ((dats m ρ 0 c).after (2 : Fin 3) t0_0))

/-- The state before the first event, and what stays out of the body's way. -/
theorem enter : bodyPre m ρ c ⊢ iprop((∃ K, St m K c 0) ∗ bigSep Finset.univ (lefts c)) := by
  unfold bodyPre
  rw [show (dats m ρ 0 c).Φ t0_0.castSucc = Φ₀ m c from rfl]
  unfold Φ₀ start
  iintro ⟨⟨⟨⟨%K, Hr, Hm⟩, Hc, Hl⟩, Hsc⟩, Ho, ⟨%d0, %g0, %hg0, Hx⟩, ⟨%d1, %g1, %hg1, Hw⟩, ⟨%d2, %g2, %hg2, Hout⟩⟩
  have hx : g0 = xstg m c := by rw [hg0]; unfold Dat.before; rw [if_pos fetched0]; rfl
  have hw : g1 = wstg m c := by rw [hg1]; unfold Dat.before; rw [if_pos fetched1]; rfl
  subst hx
  subst hw
  unfold Dat.owesAt Pipeline.owesWithin
  icases Ho with ⟨%W, %hW, HO⟩
  rw [show (dats m ρ 0 c).owed t0_0.castSucc = O₀ c from rfl]
  ihave Hsc := (scratch_eq c).1 $$ Hsc
  icases Hsc with ⟨Hs0, Hb⟩
  ihave Hb := (bufs_start m c) $$ Hb
  icases Hb with ⟨H1, H2, H3⟩
  isplitr [H3]
  · iexists K
    iapply (St_start m K c W)
    isplitl [Hr Hm Hc Hl]
    · unfold startG
      isplitl [Hr]; · iexact Hr
      isplitl [Hm]; · iexact Hm
      isplitl [Hc]; · iexact Hc
      iexact Hl
    isplitl [H1 H2]
    · isplitl [H1]; · iexact H1
      iexact H2
    isplitl [HO]; · iexact HO
    isplitl [Hs0]; · iexact Hs0
    isplitl [Hx Hw]
    · unfold inAt
      isplitl [Hx]; · iexact Hx
      iexact Hw
    iexists g2
    iexact Hout
  · iexact H3

theorem leaveBody : iprop(endG m c ∗ bigSep Finset.univ (lefts c)) ⊢ bodyPost m ρ c := by
  unfold endG bodyPost inAt
  rw [show (dats m ρ 0 c).Φ t0_0.succ = Φ₁ c from rfl]
  unfold Φ₁
  iintro ⟨⟨⟨H1, H2⟩, Hos, Hus, ⟨%W, HO⟩, Hs0, ⟨Hx, Hw⟩, Hout⟩, H3⟩
  isplitl [H1 H2 H3 Hos Hus Hs0]
  · isplitl [Hus]; · iexact Hus
    isplitl [Hos]; · iexact Hos
    iapply (scratch_eq c).2
    isplitl [Hs0]; · iexact Hs0
    iapply (bufs_end m c)
    isplitl [H1]; · iexact H1
    isplitl [H2]; · iexact H2
    iexact H3
  isplitl [HO]
  · unfold Dat.owesAt Pipeline.owesWithin
    rw [show (dats m ρ 0 c).owed t0_0.succ = 0 from rfl]
    iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem sound_body : bodyPre m ρ c ⊢ run c (on (cc0_body (F := F))) (fun _ => bodyPost m ρ c) := by
  refine BIBase.Entails.trans (enter m ρ c) ?_
  iintro ⟨⟨%K, HS⟩, HL⟩
  ihave HS := (whole m K c (fun _ => endG m c) (fun _ _ => St_end m K c)) $$ HS
  iapply (wp_wand frame (wpE (defs₀ (F := F)) 𝒱₀ (c : Thread nD τ) none) Set.univ) $$ HS
  iintro %a HE
  iapply (leaveBody m ρ c)
  isplitl [HE] <;> iassumption

theorem body_eq : defs₀ (F := F) Proc.tc 0 (t0_0, cfg0.slots t0_0) = on (cc0_body (F := F)) := by
  unfold defs₀ on
  rfl

/-- The library's body obligation on core `c`. -/
theorem body_obligation : BodyObligation (dats (F := F) m ρ 0 c) (defs₀ (F := F)) 𝒱₀ () Set.univ := fun s => by
  rw [one_point s, over_windows, over_windows]
  simp only [owns_whole_eq]
  have h := sound_body m ρ c
  rw [← body_eq] at h
  exact h

/-! ## The launch -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit : (dats m ρ 0 c).Φ (Fin.last cfg0.N) ⊢ iprop(unscopedSems0 c ∗ Pipeline.ownSems0 osem c ∗ Pipeline.scopedRest cfg0.spec c) :=
  BIBase.Entails.rfl

theorem waits : (levAts L lv : sProp 𝕄) ⊢ Pipeline.cellsWaits cfgs (dats m ρ) () 0 c :=
  Pipeline.cellsWaits_intro cfgs (dats m ρ) () 0 c fun w s t => by
    have hq : ((cfg0.spec w).sem s).val < 66 := Nat.lt_trans (stage_lt w s) (by decide)
    rcases t with ⟨_ | _, ht⟩
    · exact mayWait_low c _ hq 0
    · exact (mayWait_low c _ hq 284).trans (by rw [owed_end]; exact BIBase.Entails.rfl)

/-- What the arrays hold in the end. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the mesh of eight devices, for any float values, from any memory with zero counters: every execution ends, each
    device's result at the computed contents, both arguments unchanged and every counter at zero. -/
theorem run_main : θ_run defs (onTc (τ := τ) (main (F := F))) (mem0 m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_rs m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument holds in the end what it held. -/
theorem finalA_x : finalA m ρ c (0 : Fin 3) = m (win0_0.arr.view.loc (c : Thread nD τ)) := (dats (F := F) m ρ 0 c).arrAt_in (0 : Fin 3) rfl _
/-- So does the second. -/
theorem finalA_w : finalA m ρ c (1 : Fin 3) = m (win0_1.arr.view.loc (c : Thread nD τ)) := (dats (F := F) m ρ 0 c).arrAt_in (1 : Fin 3) rfl _

end Cert.RS

end
-- ==== Proof.Frames.lean ====
module

public import proofs.«01_k».proof.Defs
public import proofs.«01_k».proof.Proof.Gen.Kernel
public import proofs.«01_k».proof.Proof.Gen.ReferenceIdeal.Run
public import proofs.«01_k».proof.Proof.Launch
public import Idealize.ShloMosaic.Adequacy
public import Idealize.ShloMosaic.Init

/-! # The three frames

The kernel's run (`run_main`) is proved over any float values, for the program printed for the ideal instance.
The program printed for machine floats has the same text, so its body table is the same one, and its frame is the
same run taken at machine floats. -/

@[expose] public section

set_option maxRecDepth 200000

noncomputable section

namespace Cert.RS

open Idealize.ShloMosaic Idealize.ShloMosaic.TcCoe Idealize.SL.Sem

/-- The two programs' kernel bodies are one table. -/
theorem bodies_eq : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- The two programs' body tables, with the pipeline's own entries, are one table. -/
theorem defs_eq : (Cert.Kernel.defs (F := Bits)) = Cert.KernelIdeal.defs (F := Bits) :=
  congrArg (Pipeline.defs Cert.KernelIdeal.pcfgs) bodies_eq

/-- The idealized kernel's frame: the run with the result's values dropped. -/
theorem frame_kernelIdeal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- What the run says of the arguments at machine floats. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits))) (mem0 m ρ)
      fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0 :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Bits) m ρ)

/-- The kernel's frame: the same run at machine floats. -/
theorem frame_kernel : Cert.quiescent_Kernel := fun m ρ _ => by
  rw [defs_eq]
  exact frame_bits m ρ

/-- The reference's frame: it is straight-line and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RS

end
-- ==== Proof.ResultArray.lean ====
module

public import proofs.«01_k».proof.Proof.Launch
public import Idealize.ShloMosaic.Lib.Pipeline.Value

/-! # The result array after the run

The third window has one point, and its block is the whole array: after the run the array holds `result`. -/

@[expose] public section

set_option maxRecDepth 200000

noncomputable section

namespace Cert.RS

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The one block of the third window starts at the array's first element. -/
theorem index_out (t : Fin cfg0.N) : (fun a => win0_2.index t a * main_v1.ty.shape.size a) = fun _ => 0 := by
  obtain rfl : t = (0 : Fin 1) := Subsingleton.elim (α := Fin 1) t 0
  funext a
  fin_cases a <;> decide

/-- What the single point writes back is `result`, read through the whole block. -/
theorem flushed_out (c : Dev nD) (t : Fin cfg0.N) :
    (dats m ρ 0 c).flushed (2 : Fin 3) t = ((cfg0.win (2 : Fin 3)).blk t).view.read (Elt F) (result m c) :=
  (Memref.read_access_unit_zero (Elt F) main_v1 (index_out t) (fun a => by rw [congrFun (index_out t) a]; simp) (result m c)).symm

/-- Every element of the array lies in that block. -/
theorem cover_out (i : main_v1.ty.shape.Idx) : ∃ t : Fin cfg0.N, (cfg0.win (2 : Fin 3)).flush t = true ∧ i ∈ ((cfg0.win (2 : Fin 3)).blk t).view.set := by
  refine ⟨(0 : Fin 1), by decide +kernel, ?_⟩
  show i ∈ ((View.whole main_v1).slice (win0_2.rect (0 : Fin 1))).set
  rw [View.set_slice_whole, Rect.mem_set_unit]
  intro a
  have h := congrFun (index_out (0 : Fin 1)) a
  have hi := (i a).isLt
  have hx : ∀ a, win0_2.xsize (grid0.coords (0 : Fin 1)) a = main_v1.ty.shape.size a := by decide +kernel
  show win0_2.index (0 : Fin 1) a * main_v1.ty.shape.size a ≤ (i a).val ∧ (i a).val < win0_2.index (0 : Fin 1) a * main_v1.ty.shape.size a + win0_2.xsize (grid0.coords (0 : Fin 1)) a
  rw [h, hx a]
  exact ⟨Nat.zero_le _, by rw [Nat.zero_add]; exact hi⟩

/-- Device `c`'s result array after the run. -/
theorem finalA_out (c : Dev nD) : finalA m ρ c (2 : Fin 3) = result m c :=
  (dats m ρ 0 c).arrAt_eq_of_cover (2 : Fin 3) (result m c) (fun t _ => flushed_out m ρ c t) cover_out

end Cert.RS

end
-- ==== Proof.Sums.lean ====
module

public import proofs.«01_k».proof.Proof.Values
public import Idealize.ShloMosaic.Lib.Pipeline.Value
public import Idealize.ShloMosaic.Lib.MatmulPlain
public import Idealize.ShloMosaic.Lib.ValueIdxCoords

/-! # A strip of the result is a sum over the devices

At extended reals. Device `d`'s contribution to row `r`, column `x` of device `c`'s part of the result is `term m d c r x`,
a sum of 256 products. What the messages carry are partial sums of these contributions, and the eight of them that
meet in a strip are one from each device (`strip_apply`). -/

@[expose] public section

noncomputable section

namespace Cert.RS

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## What a device reads of its two blocks -/

/-- Device `d`'s block of the first array, as the run starts. -/
def xin (d : Dev nD) : S2048x256.Idx → EReal := m ((d : Thread nD τ).loc main_arg0)
/-- Device `d`'s block of the second array, as the run starts. -/
def win (d : Dev nD) : S256x2048.Idx → EReal := m ((d : Thread nD τ).loc main_arg1)

theorem index_x : (fun a => win0_0.index (0 : Fin 1) a * main_arg0.ty.shape.size a) = fun _ => 0 := by
  funext a; fin_cases a <;> decide
theorem index_w : (fun a => win0_1.index (0 : Fin 1) a * main_arg1.ty.shape.size a) = fun _ => 0 := by
  funext a; fin_cases a <;> decide

theorem xstg_eq (d : Dev nD) : xstg m d = xin m d :=
  Memref.read_access_unit_zero (Elt Ideal) main_arg0 index_x (fun a => by rw [congrFun index_x a]; simp) _
theorem wstg_eq (d : Dev nD) : wstg m d = win m d :=
  Memref.read_access_unit_zero (Elt Ideal) main_arg1 index_w (fun a => by rw [congrFun index_w a]; simp) _

theorem xwork_eq (d : Dev nD) : xwork m d = xin m d := by
  rw [← xstg_eq]
  unfold xwork k0_pay1
  exact (shapeCast_self _ _).trans (shapeCast_self _ _)

/-- The row of the whole array that row `r` of device `c`'s part is. -/
def rowAt (c : Dev nD) (r : Fin 256) : Fin 2048 := ⟨256 * c.val + r.val, by have := c.isLt; have := r.isLt; simp only [nD] at *; omega⟩

theorem rows_apply (d c : Dev nD) (r k : Fin 256) : rows m d c (ix2 r k) = xin m d (ix2 (rowAt c r) k) := by
  unfold rows
  rw [View.readAt_apply, xwork_eq]
  refine congrArg (xin m d) (funext fun a => Fin.ext ?_)
  match a with
  | ⟨0, _⟩ => show 256 * c.val + 1 * r.val = 256 * c.val + r.val; omega
  | ⟨1, _⟩ => show 0 + 1 * k.val = k.val; omega

/-- The column of the whole array that column `y` of slice `j` is. -/
def colAt (j : Fin 3) (y : Fin (cw j)) : Fin 2048 := ⟨coff j + y.val, by have := inbW j 1; have := y.isLt; simp at *; omega⟩

/-- Reading `n` columns of the second block from column `o` on. -/
theorem load_cols (d : Dev nD) (o n : ℕ) (h : ∀ a, (![0, o] : Fin 2 → ℕ) a + (![256, n] : Fin 2 → ℕ) a ≤ S256x2048.size a) (k : Fin 256) (y : Fin n)
    (x : Fin 2048) (hx : x.val = o + y.val) :
    (Memref.whole cc0_stg1_0).view.readAt (Elt Ideal) (Rect.unit (s := S256x2048) ![0, o] ![256, n] h).toLoadRect (wstg m d) (ix2 k y) = win m d (ix2 k x) := by
  rw [wstg_eq]
  refine congrArg (win m d) (funext fun a => Fin.ext ?_)
  match a with
  | ⟨0, _⟩ => show 0 + 1 * k.val = k.val; omega
  | ⟨1, _⟩ => show o + 1 * y.val = x.val; omega

theorem cols_apply (d : Dev nD) (j : Fin 3) (k : Fin 256) (y : Fin (cw j)) : cols m d j (ix2 k y) = win m d (ix2 k (colAt j y)) := by
  match j with
  | 0 => exact (congrFun (shapeCast_self _ _) _).trans (load_cols m d 0 768 _ k y _ rfl)
  | 1 => exact (congrFun (shapeCast_self _ _) _).trans (load_cols m d 768 640 _ k y _ rfl)
  | 2 => exact (congrFun (shapeCast_self _ _) _).trans (load_cols m d 1408 640 _ k y _ rfl)

/-! ## One product -/

/-- Device `d`'s contribution to row `r`, column `x` of device `c`'s part of the result. -/
def term (d c : Dev nD) (r : Fin 256) (x : Fin 2048) : EReal := ∑ k : Fin 256, xin m d (ix2 (rowAt c r) k) * win m d (ix2 k x)

/-- A product into the zero accumulator. -/
theorem matmul_zero_apply {N : ℕ} (x : FVec Ideal S256x256 .bf16) (w : FVec Ideal ⟨2, ![256, N]⟩ .bf16) (r : Fin 256) (y : Fin N) :
    FloatOps.matmul (DotDims.plain 256 256 N) none x w (constant ⟨2, ![256, N]⟩ .f32 0x00000000#32) (ix2 r y)
      = ∑ k : Fin 256, x (ix2 r k) * w (ix2 k y) := by
  rw [Ideal.matmul_plain_apply]
  show Ideal.ofBits .f32 0x00000000#32 + _ = _
  rw [Ideal.ofBits_zero_f32, zero_add]

theorem tile_apply (j : Fin 3) (w : FVec Ideal (Slice j) .bf16) (x : FVec Ideal S256x256 .bf16) (r : Fin 256) (y : Fin (cw j)) :
    tile j w x (ix2 r y) = ∑ k : Fin 256, x (ix2 r k) * w (ix2 k y) := by
  match j with
  | 0 => exact matmul_zero_apply (N := 768) x w r y
  | 1 => exact matmul_zero_apply (N := 640) x w r y
  | 2 => exact matmul_zero_apply (N := 640) x w r y

theorem part_apply (d c : Dev nD) (j : Fin 3) (r : Fin 256) (y : Fin (cw j)) : part m d c j (ix2 r y) = term m d c r (colAt j y) := by
  unfold part term
  rw [tile_apply]
  exact Finset.sum_congr rfl fun k _ => by rw [rows_apply, cols_apply]

/-- The column of the whole array that column `y` of strip `h` of slice `j` is. -/
def stripCol (j h : Fin 3) (y : Fin (wid j h)) : Fin 2048 :=
  ⟨coff j + (off j h + y.val), by have h1 := inbW j 1; have h2 := (slices_strip j h).2 1; have := y.isLt; simp at h1 h2; omega⟩

theorem piece_apply (d c : Dev nD) (j h : Fin 3) (i : (Strip j h).Idx) :
    piece j h (part m d c j) i = term m d c (i 0) (stripCol j h (i 1)) := by
  have hy : off j h + (i 1).val < cw j := by
    have h2 := (slices_strip j h).2 1
    have : (i 1).val < wid j h := (i 1).isLt
    simp at h2; omega
  unfold piece
  refine (extractStridedSlice_apply _ _ _ _ (ix2 (i 0) (⟨off j h + (i 1).val, hy⟩ : Fin (cw j))) (fun a => ?_)).trans
    (part_apply m d c j (i 0) ⟨off j h + (i 1).val, hy⟩)
  match a with
  | ⟨0, _⟩ => exact (Nat.zero_add _).symm
  | ⟨1, _⟩ => rfl

/-! ## The sums -/

theorem first_apply (j h : Fin 3) (q : Fin 4) (c : Dev nD) (i : (Strip j h).Idx) :
    first m j h q (peer (ord j 0) c) i = term m (peer (ord j 0) c) (blk j q c) (i 0) (stripCol j h (i 1)) := by
  unfold first
  rw [peer_peer, piece_apply]

theorem sum0_apply (j h : Fin 3) (q : Fin 4) (c : Dev nD) (i : (Strip j h).Idx) :
    sum0 m j h q c i = term m c (blk j q c) (i 0) (stripCol j h (i 1)) + term m (peer (ord j 0) c) (blk j q c) (i 0) (stripCol j h (i 1)) := by
  show piece j h (part m c (blk j q c) j) i + first m j h q (peer (ord j 0) c) i = _
  rw [piece_apply, first_apply]

theorem sum1_apply (j h : Fin 3) (c : Dev nD) (i : (Strip j h).Idx) :
    sum1 m j h c i = sum0 m j h 2 c i + sum0 m j h 3 (peer (ord j 1) c) i := rfl

/-- Whose rows each partial sum is for, once it has arrived. -/
theorem blk_own (j : Fin 3) (c : Dev nD) : blk j 0 c = c ∧ blk j 1 (peer (ord j 1) c) = c ∧ blk j 2 (peer (ord j 2) c) = c
    ∧ blk j 3 (peer (ord j 1) (peer (ord j 2) c)) = c := by revert j c; decide

/-- The eight devices met along the three exchanges are all of them. -/
theorem univ_met (j : Fin 3) (c : Dev nD) : (Finset.univ : Finset (Dev nD)).val =
    {c, peer (ord j 0) c, peer (ord j 1) c, peer (ord j 0) (peer (ord j 1) c), peer (ord j 2) c, peer (ord j 0) (peer (ord j 2) c),
      peer (ord j 1) (peer (ord j 2) c), peer (ord j 0) (peer (ord j 1) (peer (ord j 2) c))} := by revert j c; decide

/-- So their contributions, added in the order of the exchanges, are the sum over the devices. -/
theorem sum_met (j : Fin 3) (c : Dev nD) (f : Dev nD → EReal) :
    ((f c + f (peer (ord j 0) c)) + (f (peer (ord j 1) c) + f (peer (ord j 0) (peer (ord j 1) c))))
      + ((f (peer (ord j 2) c) + f (peer (ord j 0) (peer (ord j 2) c)))
        + (f (peer (ord j 1) (peer (ord j 2) c)) + f (peer (ord j 0) (peer (ord j 1) (peer (ord j 2) c)))))
      = ∑ d : Dev nD, f d := by
  show _ = (Multiset.map f (Finset.univ : Finset (Dev nD)).val).sum
  rw [univ_met j c]
  simp only [Multiset.insert_eq_cons, Multiset.map_cons, Multiset.map_singleton, Multiset.sum_cons, Multiset.sum_singleton]
  ac_rfl

/-- `y` over one plus the exponential of minus `y`, the exponent kept between -60 and 60, of one number. -/
def silu1 (y : EReal) : EReal := silu (s := ⟨0, ![]⟩) (F := Ideal) (fun _ => y) (fun a => a.elim0)

/-- A strip of the result: the devices' contributions added up and put through `silu1`. -/
theorem strip_apply (j h : Fin 3) (c : Dev nD) (i : (Strip j h).Idx) :
    strip m j h c i = silu1 (∑ d : Dev nD, term m d c (i 0) (stripCol j h (i 1))) := by
  obtain ⟨h0, h1, h2, h3⟩ := blk_own j c
  rw [← sum_met j c fun d => term m d c (i 0) (stripCol j h (i 1))]
  have e0 := sum0_apply m j h 0 c i
  have e1 := sum0_apply m j h 1 (peer (ord j 1) c) i
  have e2 := sum0_apply m j h 2 (peer (ord j 2) c) i
  have e3 := sum0_apply m j h 3 (peer (ord j 1) (peer (ord j 2) c)) i
  rw [h0] at e0; rw [h1] at e1; rw [h2] at e2; rw [h3] at e3
  rw [← e0, ← e1, ← e2, ← e3, ← sum1_apply]
  rfl

end Cert.RS

end
-- ==== Proof.Answer.lean ====
module

public import proofs.«01_k».proof.Proof.Sums
public import proofs.«01_k».proof.Proof.Gen.ReferenceIdeal.Run
public import Idealize.ShloMosaic.Lib.StackMember
public import Idealize.ShloMosaic.Lib.Layout

/-! # Each device's result is its block of the reference's

At extended reals, when device `d` starts from block `d` of the columns of `X` and block `d` of the rows of `W`: the sum
over the devices of their sums of 256 products is one sum of 2048 products. -/

@[expose] public section

noncomputable section

namespace Cert.RS

open Cert.KernelIdeal Cert.KernelIdeal.Gen
open Idealize.ShloMosaic Idealize.ShloMosaic.TcCoe Idealize.ShloMosaic.ValueIdx Idealize.ShloMosaic.StackMember
open scoped BigOperators

/-- The shape of the whole arrays. -/
abbrev Whole : Shape := ⟨2, ![2048, 2048]⟩

/-- The reference's result. -/
def answer (X W : FVec Ideal Whole .bf16) : FVec Ideal Whole .f32 :=
  Host.divf (extf .f32 (truncf .bf16 (Host.dotGeneral (DotDims.plain 2048 2048 2048) none X W) Cert.ReferenceIdeal.Gen.bitsLt_bf16_f32) Cert.ReferenceIdeal.Gen.bitsLt_bf16_f32)
    (addf (broadcastInDim Whole ![] Cert.ReferenceIdeal.Gen.bcast_S_S2048x2048 (constant S_ .f32 0x3F800000#32))
      (Host.exp (Host.negf (minimumf (broadcastInDim Whole ![] Cert.ReferenceIdeal.Gen.bcast_S_S2048x2048 (id (constant S_ .f32 0x42700000#32)))
        (maximumf (broadcastInDim Whole ![] Cert.ReferenceIdeal.Gen.bcast_S_S2048x2048 (id (constant S_ .f32 0xC2700000#32)))
          (extf .f32 (truncf .bf16 (Host.dotGeneral (DotDims.plain 2048 2048 2048) none X W) Cert.ReferenceIdeal.Gen.bitsLt_bf16_f32) Cert.ReferenceIdeal.Gen.bitsLt_bf16_f32))))))

/-- The function `silu1` as the reference writes it. -/
theorem silu1_eq (y : EReal) : silu1 y = Ideal.div y (Ideal.ofBits .f32 0x3F800000#32
    + Ideal.exp (-(min (Ideal.ofBits .f32 0x42700000#32) (max (Ideal.ofBits .f32 0xC2700000#32) y)))) := by
  show Ideal.div y (Ideal.ofBits .f32 0x3F800000#32
    + Ideal.exp (Ideal.ofBits .f32 0x00000000#32 - min (Ideal.ofBits .f32 0x42700000#32) (max (Ideal.ofBits .f32 0xC2700000#32) y))) = _
  rw [Ideal.ofBits_zero_f32, sub_eq_add_neg, zero_add]

theorem answer_apply (X W : FVec Ideal Whole .bf16) (R x : Fin 2048) :
    answer X W (ix2 R x) = silu1 (∑ k : Fin 2048, X (ix2 R k) * W (ix2 k x)) := by
  rw [silu1_eq, ← dotGeneral_plain_apply none X W R x]
  rfl

variable (m : (ℓ : Loc nD τ sig) → Buf (Elt Ideal) ℓ)

/-- Every column of the result is where its strip says it is. -/
theorem col_strip : ∀ x : Fin 2048, coff (sliceOf x.val) + (off (sliceOf x.val) (stripOf x.val)
    + (x.val - (coff (sliceOf x.val) + off (sliceOf x.val) (stripOf x.val))) % wid (sliceOf x.val) (stripOf x.val)) = x.val := by decide +kernel

/-- Device `c`'s result: the devices' contributions added up and put through `silu1`. -/
theorem result_apply (c : Dev nD) (r : Fin 256) (x : Fin 2048) :
    result m c (ix2 r x) = silu1 (∑ d : Dev nD, term m d c r x) := by
  refine (strip_apply m (sliceOf x.val) (stripOf x.val) c _).trans (congrArg silu1 (Finset.sum_congr rfl fun d _ => ?_))
  exact congrArg₂ (term m d c) (Fin.ext (Nat.mod_eq_of_lt r.isLt)) (Fin.ext (col_strip x))

theorem tiles_cols : Layout.Tiles S2048x256 Whole 1 8 := by decide
theorem tiles_rows : Layout.Tiles S256x2048 Whole 0 8 := by decide

/-- The sum over the devices of their 256 products is the sum of all 2048. -/
theorem sum_term (X W : FVec Ideal Whole .bf16) (hX : ∀ d, xin m d = Layout.block S2048x256 Whole 1 8 d X tiles_cols)
    (hW : ∀ d, win m d = Layout.block S256x2048 Whole 0 8 d W tiles_rows) (c : Dev nD) (r : Fin 256) (x : Fin 2048) :
    ∑ d : Dev nD, term m d c r x = ∑ k : Fin 2048, X (ix2 (rowAt c r) k) * W (ix2 k x) := by
  rw [← (finProdFinEquiv (m := 8) (n := 256)).sum_comp, Fintype.sum_prod_type]
  refine Finset.sum_congr rfl fun d _ => Finset.sum_congr rfl fun k _ => ?_
  rw [hX, hW, Layout.block_apply, Layout.block_apply]
  refine congrArg₂ (fun i j => X i * W j) (funext fun a => Fin.ext ?_) (funext fun a => Fin.ext ?_)
  · match a with
    | ⟨0, _⟩ => rfl
    | ⟨1, _⟩ => show d.val * 256 + k.val = k.val + 256 * d.val; omega
  · match a with
    | ⟨0, _⟩ => show d.val * 256 + k.val = k.val + 256 * d.val; omega
    | ⟨1, _⟩ => rfl

/-- Device `c`'s result is block `c` of the rows of the reference's. -/
theorem result_eq (X W : FVec Ideal Whole .bf16) (hX : ∀ d, xin m d = Layout.block S2048x256 Whole 1 8 d X tiles_cols)
    (hW : ∀ d, win m d = Layout.block S256x2048 Whole 0 8 d W tiles_rows) (c : Dev nD) :
    result m c = Layout.block S256x2048 Whole 0 8 c (answer X W) tiles_rows := by
  funext i
  obtain ⟨r, x, rfl⟩ : ∃ (r : Fin 256) (x : Fin 2048), i = ix2 r x := ⟨i 0, i 1, eq_ix2 i⟩
  rw [result_apply, sum_term m X W hX hW, ← answer_apply, Layout.block_apply]
  refine congrArg (answer X W) (funext fun a => Fin.ext ?_)
  match a with
  | ⟨0, _⟩ => show 256 * c.val + r.val = c.val * 256 + r.val; omega
  | ⟨1, _⟩ => rfl

end Cert.RS

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.ResultArray
public import proofs.«01_k».proof.Proof.Answer

@[expose] public section

noncomputable section

namespace Cert.Proof

open Idealize.ShloMosaic Idealize.SL.Sem Cert.Kernel

/-- The kernel and the reference compute the same: device `c`'s result is block `c` of the rows of the reference's. -/
theorem same_result : Cert.algebraic_KernelIdeal_ReferenceIdeal := fun m ρ m' ρ' _ hagree =>
  ⟨Cert.RS.answer (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((Cert.RS.finalA_out m ρ c).trans
          (Cert.RS.result_eq m _ _ (fun d => (hagree d).1) (fun d => (hagree d).2) c)),
        (h.1 c (0 : Fin 3)).trans (Cert.RS.finalA_x m ρ c), (h.1 c (1 : Fin 3)).trans (Cert.RS.finalA_w m ρ c)⟩)
      (Cert.RS.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.RS.frame_kernel, Cert.RS.frame_kernelIdeal, Cert.RS.frame_reference, trivial, same_result⟩

end Cert.Proof

end
